-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 2048, 2048]⟩ ⟨3, ![4, 2048, 2048]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x2048 : Shape := ⟨3, ![1, 2048, 2048]⟩
abbrev S2048x2048 : Shape := ⟨2, ![2048, 2048]⟩
abbrev S2048 : Shape := ⟨1, ![2048]⟩
abbrev S256x2048 : Shape := ⟨2, ![256, 2048]⟩
abbrev S128x2048 : Shape := ⟨2, ![128, 2048]⟩
abbrev S64x2048 : Shape := ⟨2, ![64, 2048]⟩
abbrev S4x256x2048 : Shape := ⟨3, ![4, 256, 2048]⟩
abbrev S3x256x2048 : Shape := ⟨3, ![3, 256, 2048]⟩
abbrev S4 : Shape := ⟨1, ![4]⟩
abbrev S3 : Shape := ⟨1, ![3]⟩
abbrev S_ : Shape := ⟨0, ![]⟩
abbrev S1x128x2048 : Shape := ⟨3, ![1, 128, 2048]⟩
abbrev S1 : Shape := ⟨1, ![1]⟩
abbrev S64 : Shape := ⟨1, ![64]⟩
abbrev S64x1 : Shape := ⟨2, ![64, 1]⟩
abbrev S1x2048 : Shape := ⟨2, ![1, 2048]⟩
abbrev S1x256x2048 : Shape := ⟨3, ![1, 256, 2048]⟩

abbrev nBuf : Space → Nat
  | .hbm => 4
  | .vmem => 11
  | .smem => 0
  | _ => 0

abbrev bufTy : (tb : Table) → Fin (tcTables nBuf tb) → BufTy
  | .hbm, ⟨0, _⟩ => ⟨S1x2048x2048, .f32⟩
  | .hbm, ⟨1, _⟩ => ⟨S2048x2048, .f32⟩
  | .hbm, ⟨2, _⟩ => ⟨S2048, .f32⟩
  | .hbm, ⟨3, _⟩ => ⟨S2048x2048, .f32⟩
  | .local _ .vmem, ⟨0, _⟩ => ⟨S1x2048x2048, .f32⟩
  | .local _ .vmem, ⟨1, _⟩ => ⟨S2048, .f32⟩
  | .local _ .vmem, ⟨2, _⟩ => ⟨S2048x2048, .f32⟩
  | .local _ .vmem, ⟨3, _⟩ => ⟨S256x2048, .bf16⟩
  | .local _ .vmem, ⟨4, _⟩ => ⟨S128x2048, .bf16⟩
  | .local _ .vmem, ⟨5, _⟩ => ⟨S128x2048, .bf16⟩
  | .local _ .vmem, ⟨6, _⟩ => ⟨S128x2048, .bf16⟩
  | .local _ .vmem, ⟨7, _⟩ => ⟨S64x2048, .bf16⟩
  | .local _ .vmem, ⟨8, _⟩ => ⟨S64x2048, .f32⟩
  | .local _ .vmem, ⟨9, _⟩ => ⟨S4x256x2048, .bf16⟩
  | .local _ .vmem, ⟨10, _⟩ => ⟨S3x256x2048, .bf16⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_23 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_22 : BitVec 32 := 16#32
  let v39 : BitVec 32 := Scalar.muli v2 c16_i32_22
  let v40 : BitVec 32 := Scalar.addi c0_i32_23 v39
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_24 : BitVec 32 := 4#32
  let v41 : BitVec 32 := Scalar.muli v5 c4_i32_24
  let v42 : BitVec 32 := Scalar.addi v40 v41
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_19 : BitVec 32 := 1#32
  let v37 : BitVec 32 := Scalar.xori v8 c1_i32_19
  let c1_i32_25 : BitVec 32 := 1#32
  let v43 : BitVec 32 := Scalar.muli v37 c1_i32_25
  let v44 : BitVec 32 := Scalar.addi v42 v43
  v44.toNat
def k0_dev2 (d0 : Dev nD) : Nat :=
  let c0_i32_28 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_27 : BitVec 32 := 16#32
  let v45 : BitVec 32 := Scalar.muli v2 c16_i32_27
  let v46 : BitVec 32 := Scalar.addi c0_i32_28 v45
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_29 : BitVec 32 := 4#32
  let v47 : BitVec 32 := Scalar.muli v5 c4_i32_29
  let v48 : BitVec 32 := Scalar.addi v46 v47
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_20 : BitVec 32 := 2#32
  let v38 : BitVec 32 := Scalar.xori v8 c2_i32_20
  let c1_i32_30 : BitVec 32 := 1#32
  let v49 : BitVec 32 := Scalar.muli v38 c1_i32_30
  let v50 : BitVec 32 := Scalar.addi v48 v49
  v50.toNat
def k0_dev3 (d0 : Dev nD) : Nat :=
  let c0_i32_33 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v19 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v20 : BitVec 32 := Scalar.subi c7_i32 v5
  let v21 : BitVec 32 := Scalar.select v19 v5 v20
  let c1_i32_6 : BitVec 32 := 1#32
  let v22 : BitVec 32 := Scalar.addi v21 c1_i32_6
  let c8_i32 : BitVec 32 := 8#32
  let v23 : BitVec 32 := Scalar.remsi v22 c8_i32
  let c4_i32_7 : BitVec 32 := 4#32
  let v24 : BitVec 1 := Scalar.cmpi .sge v23 c4_i32_7
  let c1_i32_8 : BitVec 32 := 1#32
  let c0_i32_9 : BitVec 32 := 0#32
  let v25 : BitVec 32 := Scalar.select v24 c1_i32_8 c0_i32_9
  let c16_i32_32 : BitVec 32 := 16#32
  let v51 : BitVec 32 := Scalar.muli v25 c16_i32_32
  let v52 : BitVec 32 := Scalar.addi c0_i32_33 v51
  let c4_i32_10 : BitVec 32 := 4#32
  let v26 : BitVec 1 := Scalar.cmpi .sge v23 c4_i32_10
  let c7_i32_11 : BitVec 32 := 7#32
  let v27 : BitVec 32 := Scalar.subi c7_i32_11 v23
  let v28 : BitVec 32 := Scalar.select v26 v27 v23
  let c4_i32_34 : BitVec 32 := 4#32
  let v53 : BitVec 32 := Scalar.muli v28 c4_i32_34
  let v54 : BitVec 32 := Scalar.addi v52 v53
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_35 : BitVec 32 := 1#32
  let v55 : BitVec 32 := Scalar.muli v8 c1_i32_35
  let v56 : BitVec 32 := Scalar.addi v54 v55
  v56.toNat
def k0_dev4 (d0 : Dev nD) : Nat :=
  let c0_i32_38 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v19 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v20 : BitVec 32 := Scalar.subi c7_i32 v5
  let v21 : BitVec 32 := Scalar.select v19 v5 v20
  let c7_i32_12 : BitVec 32 := 7#32
  let v29 : BitVec 32 := Scalar.addi v21 c7_i32_12
  let c8_i32_13 : BitVec 32 := 8#32
  let v30 : BitVec 32 := Scalar.remsi v29 c8_i32_13
  let c4_i32_14 : BitVec 32 := 4#32
  let v31 : BitVec 1 := Scalar.cmpi .sge v30 c4_i32_14
  let c1_i32_15 : BitVec 32 := 1#32
  let c0_i32_16 : BitVec 32 := 0#32
  let v32 : BitVec 32 := Scalar.select v31 c1_i32_15 c0_i32_16
  let c16_i32_37 : BitVec 32 := 16#32
  let v57 : BitVec 32 := Scalar.muli v32 c16_i32_37
  let v58 : BitVec 32 := Scalar.addi c0_i32_38 v57
  let c4_i32_17 : BitVec 32 := 4#32
  let v33 : BitVec 1 := Scalar.cmpi .sge v30 c4_i32_17
  let c7_i32_18 : BitVec 32 := 7#32
  let v34 : BitVec 32 := Scalar.subi c7_i32_18 v30
  let v35 : BitVec 32 := Scalar.select v33 v34 v30
  let c4_i32_39 : BitVec 32 := 4#32
  let v59 : BitVec 32 := Scalar.muli v35 c4_i32_39
  let v60 : BitVec 32 := Scalar.addi v58 v59
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_40 : BitVec 32 := 1#32
  let v61 : BitVec 32 := Scalar.muli v8 c1_i32_40
  let v62 : BitVec 32 := Scalar.addi v60 v61
  v62.toNat
def k0_off1 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_5 : BitVec 32 := 4#32
  let v12 : BitVec 32 := Scalar.muli v2 c4_i32_5
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v13 : BitVec 32 := Scalar.addi v12 v5
  let c256_i32 : BitVec 32 := 256#32
  let v14 : BitVec 32 := Scalar.muli v13 c256_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.andi v8 c1_i32_2
  let c128_i32 : BitVec 32 := 128#32
  let v15 : BitVec 32 := Scalar.muli v9 c128_i32
  let v16 : BitVec 32 := Scalar.addi v14 v15
  let c1_i32_3 : BitVec 32 := 1#32
  let v10 : BitVec 32 := Scalar.shrsi v8 c1_i32_3
  let c1_i32_4 : BitVec 32 := 1#32
  let v11 : BitVec 32 := Scalar.andi v10 c1_i32_4
  let c64_i32 : BitVec 32 := 64#32
  let v17 : BitVec 32 := Scalar.muli v11 c64_i32
  let v18 : BitVec 32 := Scalar.addi v16 v17
  let c0_i32_42 : BitVec 32 := 0#32
  ![v18.toNat, 0]
def k0_off2 (d0 : Dev nD) : Fin 3 → Nat :=
  let c0 : Index := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_5 : BitVec 32 := 4#32
  let v12 : BitVec 32 := Scalar.muli v2 c4_i32_5
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v13 : BitVec 32 := Scalar.addi v12 v5
  let c256_i32 : BitVec 32 := 256#32
  let v14 : BitVec 32 := Scalar.muli v13 c256_i32
  let c1_i32_43 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.andi v8 c1_i32_2
  let v64 : BitVec 32 := Scalar.subi c1_i32_43 v9
  let c128_i32_44 : BitVec 32 := 128#32
  let v65 : BitVec 32 := Scalar.muli v64 c128_i32_44
  let v66 : BitVec 32 := Scalar.addi v14 v65
  let v67 : Index := Scalar.indexCast v66
  let c0_45 : Index := 0#32
  ![0, v67.toNat, 0]
def k0_dev5 (d0 : Dev nD) : Nat :=
  let c0_i32_52 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_51 : BitVec 32 := 16#32
  let v75 : BitVec 32 := Scalar.muli v2 c16_i32_51
  let v76 : BitVec 32 := Scalar.addi c0_i32_52 v75
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_53 : BitVec 32 := 4#32
  let v77 : BitVec 32 := Scalar.muli v5 c4_i32_53
  let v78 : BitVec 32 := Scalar.addi v76 v77
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_48 : BitVec 32 := 1#32
  let v74 : BitVec 32 := Scalar.xori v8 c1_i32_48
  let c1_i32_54 : BitVec 32 := 1#32
  let v79 : BitVec 32 := Scalar.muli v74 c1_i32_54
  let v80 : BitVec 32 := Scalar.addi v78 v79
  v80.toNat
def k0_off3 (d0 : Dev nD) : Fin 3 → Nat :=
  let c0_67 : Index := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_5 : BitVec 32 := 4#32
  let v12 : BitVec 32 := Scalar.muli v2 c4_i32_5
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v13 : BitVec 32 := Scalar.addi v12 v5
  let c256_i32 : BitVec 32 := 256#32
  let v14 : BitVec 32 := Scalar.muli v13 c256_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.andi v8 c1_i32_2
  let c128_i32_66 : BitVec 32 := 128#32
  let v96 : BitVec 32 := Scalar.muli v9 c128_i32_66
  let v97 : BitVec 32 := Scalar.addi v14 v96
  let v98 : Index := Scalar.indexCast v97
  let c0_68 : Index := 0#32
  ![0, v98.toNat, 0]
def k0_off4 (d0 : Dev nD) : Fin 2 → Nat :=
  let c1_i32_71 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.shrsi v8 c1_i32_3
  let c1_i32_4 : BitVec 32 := 1#32
  let v11 : BitVec 32 := Scalar.andi v10 c1_i32_4
  let v106 : BitVec 32 := Scalar.subi c1_i32_71 v11
  let c64_i32_72 : BitVec 32 := 64#32
  let v107 : BitVec 32 := Scalar.muli v106 c64_i32_72
  let c0_i32_80 : BitVec 32 := 0#32
  ![v107.toNat, 0]
def k0_dev6 (d0 : Dev nD) : Nat :=
  let c0_i32_77 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_76 : BitVec 32 := 16#32
  let v109 : BitVec 32 := Scalar.muli v2 c16_i32_76
  let v110 : BitVec 32 := Scalar.addi c0_i32_77 v109
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_78 : BitVec 32 := 4#32
  let v111 : BitVec 32 := Scalar.muli v5 c4_i32_78
  let v112 : BitVec 32 := Scalar.addi v110 v111
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_73 : BitVec 32 := 2#32
  let v108 : BitVec 32 := Scalar.xori v8 c2_i32_73
  let c1_i32_79 : BitVec 32 := 1#32
  let v113 : BitVec 32 := Scalar.muli v108 c1_i32_79
  let v114 : BitVec 32 := Scalar.addi v112 v113
  v114.toNat
def k0_off5 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.shrsi v8 c1_i32_3
  let c1_i32_4 : BitVec 32 := 1#32
  let v11 : BitVec 32 := Scalar.andi v10 c1_i32_4
  let c64_i32_95 : BitVec 32 := 64#32
  let v134 : BitVec 32 := Scalar.muli v11 c64_i32_95
  let v135 : Index := Scalar.indexCast v134
  let c0_96 : Index := 0#32
  ![v135.toNat, 0]
def k0_off6 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.andi v8 c1_i32_2
  let c128_i32_102 : BitVec 32 := 128#32
  let v156 : BitVec 32 := Scalar.muli v9 c128_i32_102
  let c1_i32_3 : BitVec 32 := 1#32
  let v10 : BitVec 32 := Scalar.shrsi v8 c1_i32_3
  let c1_i32_4 : BitVec 32 := 1#32
  let v11 : BitVec 32 := Scalar.andi v10 c1_i32_4
  let c64_i32_103 : BitVec 32 := 64#32
  let v157 : BitVec 32 := Scalar.muli v11 c64_i32_103
  let v158 : BitVec 32 := Scalar.addi v156 v157
  let v160 : Index := Scalar.indexCast v158
  let c0_104 : Index := 0#32
  ![v160.toNat, 0]
def k0_off7 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.andi v8 c1_i32_2
  let c128_i32_102 : BitVec 32 := 128#32
  let v156 : BitVec 32 := Scalar.muli v9 c128_i32_102
  let c1_i32_3 : BitVec 32 := 1#32
  let v10 : BitVec 32 := Scalar.shrsi v8 c1_i32_3
  let c1_i32_4 : BitVec 32 := 1#32
  let v11 : BitVec 32 := Scalar.andi v10 c1_i32_4
  let c64_i32_103 : BitVec 32 := 64#32
  let v157 : BitVec 32 := Scalar.muli v11 c64_i32_103
  let v158 : BitVec 32 := Scalar.addi v156 v157
  let c0_i32_112 : BitVec 32 := 0#32
  ![v158.toNat, 0]
def k0_dev7 (d0 : Dev nD) : Nat :=
  let c0_i32_109 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_108 : BitVec 32 := 16#32
  let v165 : BitVec 32 := Scalar.muli v2 c16_i32_108
  let v166 : BitVec 32 := Scalar.addi c0_i32_109 v165
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_110 : BitVec 32 := 4#32
  let v167 : BitVec 32 := Scalar.muli v5 c4_i32_110
  let v168 : BitVec 32 := Scalar.addi v166 v167
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_105 : BitVec 32 := 2#32
  let v164 : BitVec 32 := Scalar.xori v8 c2_i32_105
  let c1_i32_111 : BitVec 32 := 1#32
  let v169 : BitVec 32 := Scalar.muli v164 c1_i32_111
  let v170 : BitVec 32 := Scalar.addi v168 v169
  v170.toNat
def k0_off8 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_5 : BitVec 32 := 4#32
  let v12 : BitVec 32 := Scalar.muli v2 c4_i32_5
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v13 : BitVec 32 := Scalar.addi v12 v5
  let c256_i32 : BitVec 32 := 256#32
  let v14 : BitVec 32 := Scalar.muli v13 c256_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.andi v8 c1_i32_2
  let c128_i32 : BitVec 32 := 128#32
  let v15 : BitVec 32 := Scalar.muli v9 c128_i32
  let v16 : BitVec 32 := Scalar.addi v14 v15
  let c1_i32_3 : BitVec 32 := 1#32
  let v10 : BitVec 32 := Scalar.shrsi v8 c1_i32_3
  let c1_i32_4 : BitVec 32 := 1#32
  let v11 : BitVec 32 := Scalar.andi v10 c1_i32_4
  let c64_i32 : BitVec 32 := 64#32
  let v17 : BitVec 32 := Scalar.muli v11 c64_i32
  let v18 : BitVec 32 := Scalar.addi v16 v17
  let v177 : Index := Scalar.indexCast v18
  let c0_114 : Index := 0#32
  ![v177.toNat, 0]
def k0_off9 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.andi v8 c1_i32_2
  let c128_i32_129 : BitVec 32 := 128#32
  let v194 : BitVec 32 := Scalar.muli v9 c128_i32_129
  let c0_i32_136 : BitVec 32 := 0#32
  ![v194.toNat, 0]
def k0_dev8 (d0 : Dev nD) : Nat :=
  let c0_i32_133 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_132 : BitVec 32 := 16#32
  let v196 : BitVec 32 := Scalar.muli v2 c16_i32_132
  let v197 : BitVec 32 := Scalar.addi c0_i32_133 v196
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_134 : BitVec 32 := 4#32
  let v198 : BitVec 32 := Scalar.muli v5 c4_i32_134
  let v199 : BitVec 32 := Scalar.addi v197 v198
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_130 : BitVec 32 := 1#32
  let v195 : BitVec 32 := Scalar.xori v8 c1_i32_130
  let c1_i32_135 : BitVec 32 := 1#32
  let v200 : BitVec 32 := Scalar.muli v195 c1_i32_135
  let v201 : BitVec 32 := Scalar.addi v199 v200
  v201.toNat
def k0_off10 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.andi v8 c1_i32_2
  let c128_i32_138 : BitVec 32 := 128#32
  let v208 : BitVec 32 := Scalar.muli v9 c128_i32_138
  let c1_i32_139 : BitVec 32 := 1#32
  let c1_i32_3 : BitVec 32 := 1#32
  let v10 : BitVec 32 := Scalar.shrsi v8 c1_i32_3
  let c1_i32_4 : BitVec 32 := 1#32
  let v11 : BitVec 32 := Scalar.andi v10 c1_i32_4
  let v209 : BitVec 32 := Scalar.subi c1_i32_139 v11
  let c64_i32_140 : BitVec 32 := 64#32
  let v210 : BitVec 32 := Scalar.muli v209 c64_i32_140
  let v211 : BitVec 32 := Scalar.addi v208 v210
  let v212 : Index := Scalar.indexCast v211
  let c0_141 : Index := 0#32
  ![v212.toNat, 0]
def k0_off11 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_5 : BitVec 32 := 4#32
  let v12 : BitVec 32 := Scalar.muli v2 c4_i32_5
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v13 : BitVec 32 := Scalar.addi v12 v5
  let c256_i32 : BitVec 32 := 256#32
  let v14 : BitVec 32 := Scalar.muli v13 c256_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.andi v8 c1_i32_2
  let c128_i32_142 : BitVec 32 := 128#32
  let v215 : BitVec 32 := Scalar.muli v9 c128_i32_142
  let v216 : BitVec 32 := Scalar.addi v14 v215
  let c1_i32_143 : BitVec 32 := 1#32
  let c1_i32_3 : BitVec 32 := 1#32
  let v10 : BitVec 32 := Scalar.shrsi v8 c1_i32_3
  let c1_i32_4 : BitVec 32 := 1#32
  let v11 : BitVec 32 := Scalar.andi v10 c1_i32_4
  let v217 : BitVec 32 := Scalar.subi c1_i32_143 v11
  let c64_i32_144 : BitVec 32 := 64#32
  let v218 : BitVec 32 := Scalar.muli v217 c64_i32_144
  let v219 : BitVec 32 := Scalar.addi v216 v218
  let v220 : Index := Scalar.indexCast v219
  let c0_145 : Index := 0#32
  ![v220.toNat, 0]
def k0_dev9 (d0 : Dev nD) : Nat :=
  let c0_i32_163 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v19 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v20 : BitVec 32 := Scalar.subi c7_i32 v5
  let v21 : BitVec 32 := Scalar.select v19 v5 v20
  let c1_i32_6 : BitVec 32 := 1#32
  let v22 : BitVec 32 := Scalar.addi v21 c1_i32_6
  let c8_i32 : BitVec 32 := 8#32
  let v23 : BitVec 32 := Scalar.remsi v22 c8_i32
  let c4_i32_7 : BitVec 32 := 4#32
  let v24 : BitVec 1 := Scalar.cmpi .sge v23 c4_i32_7
  let c1_i32_8 : BitVec 32 := 1#32
  let c0_i32_9 : BitVec 32 := 0#32
  let v25 : BitVec 32 := Scalar.select v24 c1_i32_8 c0_i32_9
  let c16_i32_162 : BitVec 32 := 16#32
  let v236 : BitVec 32 := Scalar.muli v25 c16_i32_162
  let v237 : BitVec 32 := Scalar.addi c0_i32_163 v236
  let c4_i32_10 : BitVec 32 := 4#32
  let v26 : BitVec 1 := Scalar.cmpi .sge v23 c4_i32_10
  let c7_i32_11 : BitVec 32 := 7#32
  let v27 : BitVec 32 := Scalar.subi c7_i32_11 v23
  let v28 : BitVec 32 := Scalar.select v26 v27 v23
  let c4_i32_164 : BitVec 32 := 4#32
  let v238 : BitVec 32 := Scalar.muli v28 c4_i32_164
  let v239 : BitVec 32 := Scalar.addi v237 v238
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_165 : BitVec 32 := 1#32
  let v240 : BitVec 32 := Scalar.muli v8 c1_i32_165
  let v241 : BitVec 32 := Scalar.addi v239 v240
  v241.toNat
def k0_dev10 (d0 : Dev nD) : Nat :=
  let c0_i32_172 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v19 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v20 : BitVec 32 := Scalar.subi c7_i32 v5
  let v21 : BitVec 32 := Scalar.select v19 v5 v20
  let c7_i32_12 : BitVec 32 := 7#32
  let v29 : BitVec 32 := Scalar.addi v21 c7_i32_12
  let c8_i32_13 : BitVec 32 := 8#32
  let v30 : BitVec 32 := Scalar.remsi v29 c8_i32_13
  let c4_i32_14 : BitVec 32 := 4#32
  let v31 : BitVec 1 := Scalar.cmpi .sge v30 c4_i32_14
  let c1_i32_15 : BitVec 32 := 1#32
  let c0_i32_16 : BitVec 32 := 0#32
  let v32 : BitVec 32 := Scalar.select v31 c1_i32_15 c0_i32_16
  let c16_i32_171 : BitVec 32 := 16#32
  let v248 : BitVec 32 := Scalar.muli v32 c16_i32_171
  let v249 : BitVec 32 := Scalar.addi c0_i32_172 v248
  let c4_i32_17 : BitVec 32 := 4#32
  let v33 : BitVec 1 := Scalar.cmpi .sge v30 c4_i32_17
  let c7_i32_18 : BitVec 32 := 7#32
  let v34 : BitVec 32 := Scalar.subi c7_i32_18 v30
  let v35 : BitVec 32 := Scalar.select v33 v34 v30
  let c4_i32_173 : BitVec 32 := 4#32
  let v250 : BitVec 32 := Scalar.muli v35 c4_i32_173
  let v251 : BitVec 32 := Scalar.addi v249 v250
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_174 : BitVec 32 := 1#32
  let v252 : BitVec 32 := Scalar.muli v8 c1_i32_174
  let v253 : BitVec 32 := Scalar.addi v251 v252
  v253.toNat
def k0_off12 (d0 : Dev nD) : Fin 2 → Nat :=
  let c1_i32_177 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.andi v8 c1_i32_2
  let v260 : BitVec 32 := Scalar.subi c1_i32_177 v9
  let c128_i32_178 : BitVec 32 := 128#32
  let v261 : BitVec 32 := Scalar.muli v260 c128_i32_178
  let v262 : Index := Scalar.indexCast v261
  let c0_179 : Index := 0#32
  ![v262.toNat, 0]
def k0_off13 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_5 : BitVec 32 := 4#32
  let v12 : BitVec 32 := Scalar.muli v2 c4_i32_5
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v13 : BitVec 32 := Scalar.addi v12 v5
  let c256_i32 : BitVec 32 := 256#32
  let v14 : BitVec 32 := Scalar.muli v13 c256_i32
  let c1_i32_180 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.andi v8 c1_i32_2
  let v265 : BitVec 32 := Scalar.subi c1_i32_180 v9
  let c128_i32_181 : BitVec 32 := 128#32
  let v266 : BitVec 32 := Scalar.muli v265 c128_i32_181
  let v267 : BitVec 32 := Scalar.addi v14 v266
  let v268 : Index := Scalar.indexCast v267
  let c0_182 : Index := 0#32
  ![v268.toNat, 0]
def k0_dev11 (d0 : Dev nD) : Nat :=
  let c0_i32_218 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v19 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v20 : BitVec 32 := Scalar.subi c7_i32 v5
  let v21 : BitVec 32 := Scalar.select v19 v5 v20
  let c1_i32_6 : BitVec 32 := 1#32
  let v22 : BitVec 32 := Scalar.addi v21 c1_i32_6
  let c8_i32 : BitVec 32 := 8#32
  let v23 : BitVec 32 := Scalar.remsi v22 c8_i32
  let c4_i32_7 : BitVec 32 := 4#32
  let v24 : BitVec 1 := Scalar.cmpi .sge v23 c4_i32_7
  let c1_i32_8 : BitVec 32 := 1#32
  let c0_i32_9 : BitVec 32 := 0#32
  let v25 : BitVec 32 := Scalar.select v24 c1_i32_8 c0_i32_9
  let c16_i32_217 : BitVec 32 := 16#32
  let v298 : BitVec 32 := Scalar.muli v25 c16_i32_217
  let v299 : BitVec 32 := Scalar.addi c0_i32_218 v298
  let c4_i32_10 : BitVec 32 := 4#32
  let v26 : BitVec 1 := Scalar.cmpi .sge v23 c4_i32_10
  let c7_i32_11 : BitVec 32 := 7#32
  let v27 : BitVec 32 := Scalar.subi c7_i32_11 v23
  let v28 : BitVec 32 := Scalar.select v26 v27 v23
  let c4_i32_219 : BitVec 32 := 4#32
  let v300 : BitVec 32 := Scalar.muli v28 c4_i32_219
  let v301 : BitVec 32 := Scalar.addi v299 v300
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_220 : BitVec 32 := 1#32
  let v302 : BitVec 32 := Scalar.muli v8 c1_i32_220
  let v303 : BitVec 32 := Scalar.addi v301 v302
  v303.toNat
def k0_dev12 (d0 : Dev nD) : Nat :=
  let c0_i32_230 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v19 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v20 : BitVec 32 := Scalar.subi c7_i32 v5
  let v21 : BitVec 32 := Scalar.select v19 v5 v20
  let c7_i32_12 : BitVec 32 := 7#32
  let v29 : BitVec 32 := Scalar.addi v21 c7_i32_12
  let c8_i32_13 : BitVec 32 := 8#32
  let v30 : BitVec 32 := Scalar.remsi v29 c8_i32_13
  let c4_i32_14 : BitVec 32 := 4#32
  let v31 : BitVec 1 := Scalar.cmpi .sge v30 c4_i32_14
  let c1_i32_15 : BitVec 32 := 1#32
  let c0_i32_16 : BitVec 32 := 0#32
  let v32 : BitVec 32 := Scalar.select v31 c1_i32_15 c0_i32_16
  let c16_i32_229 : BitVec 32 := 16#32
  let v312 : BitVec 32 := Scalar.muli v32 c16_i32_229
  let v313 : BitVec 32 := Scalar.addi c0_i32_230 v312
  let c4_i32_17 : BitVec 32 := 4#32
  let v33 : BitVec 1 := Scalar.cmpi .sge v30 c4_i32_17
  let c7_i32_18 : BitVec 32 := 7#32
  let v34 : BitVec 32 := Scalar.subi c7_i32_18 v30
  let v35 : BitVec 32 := Scalar.select v33 v34 v30
  let c4_i32_231 : BitVec 32 := 4#32
  let v314 : BitVec 32 := Scalar.muli v35 c4_i32_231
  let v315 : BitVec 32 := Scalar.addi v313 v314
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_232 : BitVec 32 := 1#32
  let v316 : BitVec 32 := Scalar.muli v8 c1_i32_232
  let v317 : BitVec 32 := Scalar.addi v315 v316
  v317.toNat
def k0_off14 (d0 : Dev nD) (c0_i32_238 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v19 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v20 : BitVec 32 := Scalar.subi c7_i32 v5
  let v21 : BitVec 32 := Scalar.select v19 v5 v20
  let c7_i32_237 : BitVec 32 := 7#32
  let v326 : BitVec 32 := Scalar.addi v21 c7_i32_237
  let v327 : BitVec 32 := Scalar.subi v326 c0_i32_238
  let c8_i32_239 : BitVec 32 := 8#32
  let v328 : BitVec 32 := Scalar.remsi v327 c8_i32_239
  let c4_i32_243 : BitVec 32 := 4#32
  let v331 : BitVec 1 := Scalar.cmpi .sge v328 c4_i32_243
  let c1_i32_244 : BitVec 32 := 1#32
  let c0_i32_245 : BitVec 32 := 0#32
  let v332 : BitVec 32 := Scalar.select v331 c1_i32_244 c0_i32_245
  let c4_i32_248 : BitVec 32 := 4#32
  let v336 : BitVec 32 := Scalar.muli v332 c4_i32_248
  let c4_i32_246 : BitVec 32 := 4#32
  let v333 : BitVec 1 := Scalar.cmpi .sge v328 c4_i32_246
  let c7_i32_247 : BitVec 32 := 7#32
  let v334 : BitVec 32 := Scalar.subi c7_i32_247 v328
  let v335 : BitVec 32 := Scalar.select v333 v334 v328
  let v337 : BitVec 32 := Scalar.addi v336 v335
  let c256_i32_249 : BitVec 32 := 256#32
  let v339 : BitVec 32 := Scalar.muli v337 c256_i32_249
  let v340 : Index := Scalar.indexCast v339
  let c0_250 : Index := 0#32
  ![v340.toNat, 0]
def k0_off15 (d0 : Dev nD) (c0_i32_252 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v19 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v20 : BitVec 32 := Scalar.subi c7_i32 v5
  let v21 : BitVec 32 := Scalar.select v19 v5 v20
  let c1_i32_251 : BitVec 32 := 1#32
  let v342 : BitVec 32 := Scalar.addi v21 c1_i32_251
  let v343 : BitVec 32 := Scalar.addi v342 c0_i32_252
  let c8_i32_253 : BitVec 32 := 8#32
  let v344 : BitVec 32 := Scalar.remsi v343 c8_i32_253
  let c4_i32_257 : BitVec 32 := 4#32
  let v347 : BitVec 1 := Scalar.cmpi .sge v344 c4_i32_257
  let c1_i32_258 : BitVec 32 := 1#32
  let c0_i32_259 : BitVec 32 := 0#32
  let v348 : BitVec 32 := Scalar.select v347 c1_i32_258 c0_i32_259
  let c4_i32_262 : BitVec 32 := 4#32
  let v352 : BitVec 32 := Scalar.muli v348 c4_i32_262
  let c4_i32_260 : BitVec 32 := 4#32
  let v349 : BitVec 1 := Scalar.cmpi .sge v344 c4_i32_260
  let c7_i32_261 : BitVec 32 := 7#32
  let v350 : BitVec 32 := Scalar.subi c7_i32_261 v344
  let v351 : BitVec 32 := Scalar.select v349 v350 v344
  let v353 : BitVec 32 := Scalar.addi v352 v351
  let c256_i32_263 : BitVec 32 := 256#32
  let v355 : BitVec 32 := Scalar.muli v353 c256_i32_263
  let v356 : Index := Scalar.indexCast v355
  let c0_264 : Index := 0#32
  ![v356.toNat, 0]
def k0_dev13 (d0 : Dev nD) : Nat :=
  let c0_i32_312 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v19 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v20 : BitVec 32 := Scalar.subi c7_i32 v5
  let v21 : BitVec 32 := Scalar.select v19 v5 v20
  let c1_i32_6 : BitVec 32 := 1#32
  let v22 : BitVec 32 := Scalar.addi v21 c1_i32_6
  let c8_i32 : BitVec 32 := 8#32
  let v23 : BitVec 32 := Scalar.remsi v22 c8_i32
  let c4_i32_7 : BitVec 32 := 4#32
  let v24 : BitVec 1 := Scalar.cmpi .sge v23 c4_i32_7
  let c1_i32_8 : BitVec 32 := 1#32
  let c0_i32_9 : BitVec 32 := 0#32
  let v25 : BitVec 32 := Scalar.select v24 c1_i32_8 c0_i32_9
  let c16_i32_311 : BitVec 32 := 16#32
  let v394 : BitVec 32 := Scalar.muli v25 c16_i32_311
  let v395 : BitVec 32 := Scalar.addi c0_i32_312 v394
  let c4_i32_10 : BitVec 32 := 4#32
  let v26 : BitVec 1 := Scalar.cmpi .sge v23 c4_i32_10
  let c7_i32_11 : BitVec 32 := 7#32
  let v27 : BitVec 32 := Scalar.subi c7_i32_11 v23
  let v28 : BitVec 32 := Scalar.select v26 v27 v23
  let c4_i32_313 : BitVec 32 := 4#32
  let v396 : BitVec 32 := Scalar.muli v28 c4_i32_313
  let v397 : BitVec 32 := Scalar.addi v395 v396
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_314 : BitVec 32 := 1#32
  let v398 : BitVec 32 := Scalar.muli v8 c1_i32_314
  let v399 : BitVec 32 := Scalar.addi v397 v398
  v399.toNat
def k0_dev14 (d0 : Dev nD) : Nat :=
  let c0_i32_324 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v19 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v20 : BitVec 32 := Scalar.subi c7_i32 v5
  let v21 : BitVec 32 := Scalar.select v19 v5 v20
  let c7_i32_12 : BitVec 32 := 7#32
  let v29 : BitVec 32 := Scalar.addi v21 c7_i32_12
  let c8_i32_13 : BitVec 32 := 8#32
  let v30 : BitVec 32 := Scalar.remsi v29 c8_i32_13
  let c4_i32_14 : BitVec 32 := 4#32
  let v31 : BitVec 1 := Scalar.cmpi .sge v30 c4_i32_14
  let c1_i32_15 : BitVec 32 := 1#32
  let c0_i32_16 : BitVec 32 := 0#32
  let v32 : BitVec 32 := Scalar.select v31 c1_i32_15 c0_i32_16
  let c16_i32_323 : BitVec 32 := 16#32
  let v408 : BitVec 32 := Scalar.muli v32 c16_i32_323
  let v409 : BitVec 32 := Scalar.addi c0_i32_324 v408
  let c4_i32_17 : BitVec 32 := 4#32
  let v33 : BitVec 1 := Scalar.cmpi .sge v30 c4_i32_17
  let c7_i32_18 : BitVec 32 := 7#32
  let v34 : BitVec 32 := Scalar.subi c7_i32_18 v30
  let v35 : BitVec 32 := Scalar.select v33 v34 v30
  let c4_i32_325 : BitVec 32 := 4#32
  let v410 : BitVec 32 := Scalar.muli v35 c4_i32_325
  let v411 : BitVec 32 := Scalar.addi v409 v410
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_326 : BitVec 32 := 1#32
  let v412 : BitVec 32 := Scalar.muli v8 c1_i32_326
  let v413 : BitVec 32 := Scalar.addi v411 v412
  v413.toNat
def k0_dev15 (d0 : Dev nD) : Nat :=
  let c0_i32_405 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v19 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v20 : BitVec 32 := Scalar.subi c7_i32 v5
  let v21 : BitVec 32 := Scalar.select v19 v5 v20
  let c1_i32_6 : BitVec 32 := 1#32
  let v22 : BitVec 32 := Scalar.addi v21 c1_i32_6
  let c8_i32 : BitVec 32 := 8#32
  let v23 : BitVec 32 := Scalar.remsi v22 c8_i32
  let c4_i32_7 : BitVec 32 := 4#32
  let v24 : BitVec 1 := Scalar.cmpi .sge v23 c4_i32_7
  let c1_i32_8 : BitVec 32 := 1#32
  let c0_i32_9 : BitVec 32 := 0#32
  let v25 : BitVec 32 := Scalar.select v24 c1_i32_8 c0_i32_9
  let c16_i32_404 : BitVec 32 := 16#32
  let v490 : BitVec 32 := Scalar.muli v25 c16_i32_404
  let v491 : BitVec 32 := Scalar.addi c0_i32_405 v490
  let c4_i32_10 : BitVec 32 := 4#32
  let v26 : BitVec 1 := Scalar.cmpi .sge v23 c4_i32_10
  let c7_i32_11 : BitVec 32 := 7#32
  let v27 : BitVec 32 := Scalar.subi c7_i32_11 v23
  let v28 : BitVec 32 := Scalar.select v26 v27 v23
  let c4_i32_406 : BitVec 32 := 4#32
  let v492 : BitVec 32 := Scalar.muli v28 c4_i32_406
  let v493 : BitVec 32 := Scalar.addi v491 v492
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_407 : BitVec 32 := 1#32
  let v494 : BitVec 32 := Scalar.muli v8 c1_i32_407
  let v495 : BitVec 32 := Scalar.addi v493 v494
  v495.toNat
abbrev stage0_0 : Fin 1 → Memref sig .tc .vmem S1x2048x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4x2048x2048 : Shape := ⟨3, ![4, 2048, 2048]⟩
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 22
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x2048, .f32⟩
  | .hbm, ⟨18, _⟩ => ⟨S2048x2048, .f32⟩
  | .hbm, ⟨19, _⟩ => ⟨S1x2048, .f32⟩
  | .hbm, ⟨20, _⟩ => ⟨S2048x2048, .f32⟩
  | .hbm, ⟨21, _⟩ => ⟨S2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.KernelIdeal.Mesh.lean ====
/- The mesh of the kernel: 32 devices, device `16x + 4y + z` at the coordinates `(x, y, z)`.

   Devices of one `(x, y)` form a group of four (they differ in `z`) and reduce the block number
   `4x + y` of 256 rows together; devices of one `z` form a ring of eight, which passes the finished
   blocks around in both directions. This file names the partners of a device, states which partner
   each send of the kernel addresses, and gives the row offsets of the kernel in closed form. -/
module

public import proofs.«01_k».proof.Proof.Gen.KernelIdeal
public import proofs.«01_k».proof.Proof.Gen.KernelIdeal.Skeleton

@[expose] public section

noncomputable section

namespace Cert.KernelIdeal.Cube

open Idealize.ShloMosaic Idealize.ShloMosaic.TcCoe
open Cert.KernelIdeal Cert.KernelIdeal.Gen

/-! ## Partners -/

/-- The place of a device on its ring: rows of the mesh are walked forth and back. -/
def pos (n : ℕ) : ℕ := if n / 16 = 0 then n / 4 % 4 else 7 - n / 4 % 4

/-- The device at place `p` of the ring of the devices with third coordinate `z`. -/
def atPlace (p z : ℕ) : ℕ := if p < 4 then 4 * p + z else 16 + 4 * (7 - p) + z

/-- The partner that differs in the lower bit of `z`. -/
def zA : Dev nD → Dev nD :=
  fun c => ⟨if c.val % 2 = 0 then (c.val + 1) % 32 else c.val - 1, by revert c; decide +kernel⟩

/-- The partner that differs in the upper bit of `z`. -/
def zB : Dev nD → Dev nD :=
  fun c => ⟨if c.val / 2 % 2 = 0 then (c.val + 2) % 32 else c.val - 2, by revert c; decide +kernel⟩

/-- The next device of the ring. -/
def cw : Dev nD → Dev nD :=
  fun c => ⟨atPlace ((pos c.val + 1) % 8) (c.val % 4), by revert c; decide +kernel⟩

/-- The previous device of the ring. -/
def ccw : Dev nD → Dev nD :=
  fun c => ⟨atPlace ((pos c.val + 7) % 8) (c.val % 4), by revert c; decide +kernel⟩

theorem zA_zA : ∀ c, zA (zA c) = c := by decide +kernel
theorem zB_zB : ∀ c, zB (zB c) = c := by decide +kernel
theorem cw_ccw : ∀ c, cw (ccw c) = c := by decide +kernel
theorem ccw_cw : ∀ c, ccw (cw c) = c := by decide +kernel

/-! ## Whom the kernel addresses -/

theorem dev1_eq : ∀ c, (⟨k0_dev1 c, k0_dev1_lt c⟩ : Dev nD) = zA c := by decide +kernel
theorem dev2_eq : ∀ c, (⟨k0_dev2 c, k0_dev2_lt c⟩ : Dev nD) = zB c := by decide +kernel
theorem dev3_eq : ∀ c, (⟨k0_dev3 c, k0_dev3_lt c⟩ : Dev nD) = cw c := by decide +kernel
theorem dev4_eq : ∀ c, (⟨k0_dev4 c, k0_dev4_lt c⟩ : Dev nD) = ccw c := by decide +kernel
theorem dev5_eq : ∀ c, (⟨k0_dev5 c, k0_dev5_lt c⟩ : Dev nD) = zA c := by decide +kernel
theorem dev6_eq : ∀ c, (⟨k0_dev6 c, k0_dev6_lt c⟩ : Dev nD) = zB c := by decide +kernel
theorem dev7_eq : ∀ c, (⟨k0_dev7 c, k0_dev7_lt c⟩ : Dev nD) = zB c := by decide +kernel
theorem dev8_eq : ∀ c, (⟨k0_dev8 c, k0_dev8_lt c⟩ : Dev nD) = zA c := by decide +kernel
theorem dev9_eq : ∀ c, (⟨k0_dev9 c, k0_dev9_lt c⟩ : Dev nD) = cw c := by decide +kernel
theorem dev10_eq : ∀ c, (⟨k0_dev10 c, k0_dev10_lt c⟩ : Dev nD) = ccw c := by decide +kernel
theorem dev11_eq : ∀ c, (⟨k0_dev11 c, k0_dev11_lt c⟩ : Dev nD) = cw c := by decide +kernel
theorem dev12_eq : ∀ c, (⟨k0_dev12 c, k0_dev12_lt c⟩ : Dev nD) = ccw c := by decide +kernel
theorem dev13_eq : ∀ c, (⟨k0_dev13 c, k0_dev13_lt c⟩ : Dev nD) = cw c := by decide +kernel
theorem dev14_eq : ∀ c, (⟨k0_dev14 c, k0_dev14_lt c⟩ : Dev nD) = ccw c := by decide +kernel
theorem dev15_eq : ∀ c, (⟨k0_dev15 c, k0_dev15_lt c⟩ : Dev nD) = cw c := by decide +kernel

/-! ## Row offsets -/

/-- The number of the block a device's group reduces. -/
def blk (c : Dev nD) : ℕ := c.val / 4

/-- The half of the block a device keeps after the first exchange. -/
def hf (c : Dev nD) : ℕ := c.val % 2

/-- The quarter of that half a device keeps after the second exchange. -/
def qt (c : Dev nD) : ℕ := c.val / 2 % 2

/-- First row, inside the block, of the quarter of a device. -/
def own (c : Dev nD) : ℕ := 128 * hf c + 64 * qt c

theorem off1_eq : ∀ c, k0_off1 c = ![256 * blk c + own c, 0] := by decide +kernel
theorem off2_eq : ∀ c, k0_off2 c = ![0, 256 * blk c + 128 * hf (zA c), 0] := by decide +kernel
theorem off3_eq : ∀ c, k0_off3 c = ![0, 256 * blk c + 128 * hf c, 0] := by decide +kernel
theorem off4_eq : ∀ c, k0_off4 c = ![64 * qt (zB c), 0] := by decide +kernel
theorem off5_eq : ∀ c, k0_off5 c = ![64 * qt c, 0] := by decide +kernel
theorem off6_eq : ∀ c, k0_off6 c = ![own c, 0] := by decide +kernel
theorem off7_eq : ∀ c, k0_off7 c = ![own c, 0] := by decide +kernel
theorem off8_eq : ∀ c, k0_off8 c = ![256 * blk c + own c, 0] := by decide +kernel
theorem off9_eq : ∀ c, k0_off9 c = ![128 * hf c, 0] := by decide +kernel
theorem off10_eq : ∀ c, k0_off10 c = ![own (zB c), 0] := by decide +kernel
theorem off11_eq : ∀ c, k0_off11 c = ![256 * blk c + own (zB c), 0] := by decide +kernel
theorem off12_eq : ∀ c, k0_off12 c = ![128 * hf (zA c), 0] := by decide +kernel
theorem off13_eq : ∀ c, k0_off13 c = ![256 * blk c + 128 * hf (zA c), 0] := by decide +kernel
theorem off14_eq : ∀ c, ∀ h : Fin 4, k0_off14 c (BitVec.ofNat 32 h.val) = ![256 * blk (ccw^[h.val + 1] c), 0] := by decide +kernel
theorem off15_eq : ∀ c, ∀ h : Fin 3, k0_off15 c (BitVec.ofNat 32 h.val) = ![256 * blk (cw^[h.val + 1] c), 0] := by decide +kernel

/-! ## How the offsets of partners relate -/

theorem blk_zA : ∀ c, blk (zA c) = blk c := by decide +kernel
theorem blk_zB : ∀ c, blk (zB c) = blk c := by decide +kernel
theorem hf_zB : ∀ c, hf (zB c) = hf c := by decide +kernel
theorem qt_zA : ∀ c, qt (zA c) = qt c := by decide +kernel
theorem hf_zA : ∀ c, hf (zA c) = 1 - hf c := by decide +kernel
theorem qt_zB : ∀ c, qt (zB c) = 1 - qt c := by decide +kernel
theorem blk_lt : ∀ c, blk c < 8 := by decide +kernel
theorem hf_lt : ∀ c, hf c < 2 := by decide +kernel
theorem qt_lt : ∀ c, qt c < 2 := by decide +kernel

/-! ## The semaphores, numbered -/

/-- The semaphores of the kernel: number 0 is the barrier, 1 the local copy's, `2 + j` the one the
   sender of transfer `j` waits at and `13 + j` the one its receiver waits at. Transfers 0–3 run inside
   the group, 4–7 are the forward hops, 8–10 the backward hops. -/
def csem (k : Fin 24) : SemLoc sig :=
  match k with
  | ⟨0, _⟩ => .reg (SemArray.scalar (sig.barrier 0 rfl) : Sems sig S_).sem
  | ⟨1, _⟩ => .dma (cc0_scratch14 : DmaSems sig S_).sem
  | ⟨2, _⟩ => .dma ((cc0_scratch8.slice (Rect.unit (s := S4) ![0] S1.size inb_S4_S1_0)).squeeze S_ squeezes_S1_S_).sem
  | ⟨3, _⟩ => .dma ((cc0_scratch8.slice (Rect.unit (s := S4) ![1] S1.size inb_S4_S1_1)).squeeze S_ squeezes_S1_S_).sem
  | ⟨4, _⟩ => .dma ((cc0_scratch8.slice (Rect.unit (s := S4) ![2] S1.size inb_S4_S1_2)).squeeze S_ squeezes_S1_S_).sem
  | ⟨5, _⟩ => .dma ((cc0_scratch8.slice (Rect.unit (s := S4) ![3] S1.size inb_S4_S1_3)).squeeze S_ squeezes_S1_S_).sem
  | ⟨6, _⟩ => .dma ((cc0_scratch10.slice (Rect.unit (s := S4) ![0] S1.size inb_S4_S1_0)).squeeze S_ squeezes_S1_S_).sem
  | ⟨7, _⟩ => .dma ((cc0_scratch10.slice (Rect.unit (s := S4) ![1] S1.size inb_S4_S1_1)).squeeze S_ squeezes_S1_S_).sem
  | ⟨8, _⟩ => .dma ((cc0_scratch10.slice (Rect.unit (s := S4) ![2] S1.size inb_S4_S1_2)).squeeze S_ squeezes_S1_S_).sem
  | ⟨9, _⟩ => .dma ((cc0_scratch10.slice (Rect.unit (s := S4) ![3] S1.size inb_S4_S1_3)).squeeze S_ squeezes_S1_S_).sem
  | ⟨10, _⟩ => .dma ((cc0_scratch12.slice (Rect.unit (s := S3) ![0] S1.size inb_S3_S1_0)).squeeze S_ squeezes_S1_S_).sem
  | ⟨11, _⟩ => .dma ((cc0_scratch12.slice (Rect.unit (s := S3) ![1] S1.size inb_S3_S1_1)).squeeze S_ squeezes_S1_S_).sem
  | ⟨12, _⟩ => .dma ((cc0_scratch12.slice (Rect.unit (s := S3) ![2] S1.size inb_S3_S1_2)).squeeze S_ squeezes_S1_S_).sem
  | ⟨13, _⟩ => .dma ((cc0_scratch9.slice (Rect.unit (s := S4) ![0] S1.size inb_S4_S1_0)).squeeze S_ squeezes_S1_S_).sem
  | ⟨14, _⟩ => .dma ((cc0_scratch9.slice (Rect.unit (s := S4) ![1] S1.size inb_S4_S1_1)).squeeze S_ squeezes_S1_S_).sem
  | ⟨15, _⟩ => .dma ((cc0_scratch9.slice (Rect.unit (s := S4) ![2] S1.size inb_S4_S1_2)).squeeze S_ squeezes_S1_S_).sem
  | ⟨16, _⟩ => .dma ((cc0_scratch9.slice (Rect.unit (s := S4) ![3] S1.size inb_S4_S1_3)).squeeze S_ squeezes_S1_S_).sem
  | ⟨17, _⟩ => .dma ((cc0_scratch11.slice (Rect.unit (s := S4) ![0] S1.size inb_S4_S1_0)).squeeze S_ squeezes_S1_S_).sem
  | ⟨18, _⟩ => .dma ((cc0_scratch11.slice (Rect.unit (s := S4) ![1] S1.size inb_S4_S1_1)).squeeze S_ squeezes_S1_S_).sem
  | ⟨19, _⟩ => .dma ((cc0_scratch11.slice (Rect.unit (s := S4) ![2] S1.size inb_S4_S1_2)).squeeze S_ squeezes_S1_S_).sem
  | ⟨20, _⟩ => .dma ((cc0_scratch11.slice (Rect.unit (s := S4) ![3] S1.size inb_S4_S1_3)).squeeze S_ squeezes_S1_S_).sem
  | ⟨21, _⟩ => .dma ((cc0_scratch13.slice (Rect.unit (s := S3) ![0] S1.size inb_S3_S1_0)).squeeze S_ squeezes_S1_S_).sem
  | ⟨22, _⟩ => .dma ((cc0_scratch13.slice (Rect.unit (s := S3) ![1] S1.size inb_S3_S1_1)).squeeze S_ squeezes_S1_S_).sem
  | ⟨23, _⟩ => .dma ((cc0_scratch13.slice (Rect.unit (s := S3) ![2] S1.size inb_S3_S1_2)).squeeze S_ squeezes_S1_S_).sem
  | ⟨_ + 24, h⟩ => absurd h (by omega)

theorem csem_injective : Function.Injective csem := by decide +kernel

/-- The number of a semaphore. -/
def code (sm : SemLoc sig) : Fin 24 := Function.invFun csem sm

theorem code_csem (k : Fin 24) : code (csem k) = k := Function.leftInverse_invFun csem_injective k

end Cert.KernelIdeal.Cube
-- ==== Proof.KernelIdeal.Content.lean ====
/- What the buffers of the kernel hold.

   Every buffer of a device receives each of its elements once, so each buffer has ONE contents, named
   here from the arguments alone; the proof of the body only ever says that a part of a buffer holds its
   part of that contents. The second half relates what a transfer reads on one device to what the
   receiving buffer is to hold on the other, and what the kernel stores to what the result is to hold. -/
module

public import proofs.«01_k».proof.Proof.KernelIdeal.Mesh
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.ValueLayout
public import Idealize.ShloMosaic.Lib.Tactic

@[expose] public section

noncomputable section

namespace Cert.KernelIdeal.Cube

open Idealize.ShloMosaic Idealize.ShloMosaic.TcCoe
open Cert.KernelIdeal Cert.KernelIdeal.Gen
open Idealize.ShloMosaic.ValueIdx (ix1 ix2 ix3)

variable {F : FTy → Type} [FloatOps F]

/-! ## The buffers -/

abbrev xM : Memref sig .tc .vmem S1x2048x2048 .f32 := Memref.whole cc0_stg0_0
abbrev gM : Memref sig .tc .vmem S2048 .f32 := Memref.whole cc0_stg1_0
abbrev oM : Memref sig .tc .vmem S2048x2048 .f32 := Memref.whole cc0_stg2_0
abbrev resM : Memref sig .tc .hbm S2048x2048 .f32 := Memref.whole main_arg1
abbrev blkM : Memref sig .tc .vmem S256x2048 .bf16 := Memref.whole cc0_scratch0
abbrev a1sM : Memref sig .tc .vmem S128x2048 .bf16 := Memref.whole cc0_scratch1
abbrev a1rM : Memref sig .tc .vmem S128x2048 .bf16 := Memref.whole cc0_scratch2
abbrev accM : Memref sig .tc .vmem S128x2048 .bf16 := Memref.whole cc0_scratch3
abbrev a2rM : Memref sig .tc .vmem S64x2048 .bf16 := Memref.whole cc0_scratch4
abbrev rcM : Memref sig .tc .vmem S64x2048 .f32 := Memref.whole cc0_scratch5
abbrev cwM : Memref sig .tc .vmem S4x256x2048 .bf16 := Memref.whole cc0_scratch6
abbrev ccwM : Memref sig .tc .vmem S3x256x2048 .bf16 := Memref.whole cc0_scratch7

/-- The rows of the residual a device's quarter takes. -/
abbrev resW (c : Dev nD) : Memref sig .tc .hbm S64x2048 .f32 :=
  resM.slice (Rect.unit (s := S2048x2048) (k0_off1 c) S64x2048.size (k0_off1_inb c)) (fun _ => rfl)
/-- The quarter of its accumulator a device sends away. -/
abbrev accOut (c : Dev nD) : Memref sig .tc .vmem S64x2048 .bf16 :=
  accM.slice (Rect.unit (s := S128x2048) (k0_off4 c) S64x2048.size (k0_off4_inb c)) (fun _ => rfl)
/-- The quarter of the normalised block a device computes. -/
abbrev blkQ (c : Dev nD) : Memref sig .tc .vmem S64x2048 .bf16 :=
  blkM.slice (Rect.unit (s := S256x2048) (k0_off7 c) S64x2048.size (k0_off7_inb c)) (fun _ => rfl)
/-- The half of the normalised block a device passes on. -/
abbrev blkH (c : Dev nD) : Memref sig .tc .vmem S128x2048 .bf16 :=
  blkM.slice (Rect.unit (s := S256x2048) (k0_off9 c) S128x2048.size (k0_off9_inb c)) (fun _ => rfl)
/-- A slot of the buffer for the forward hops. -/
abbrev cwS (h : ℕ) (hh : ∀ a, (![h, 0, 0] : Fin 3 → ℕ) a + S1x256x2048.size a ≤ S4x256x2048.size a) : Memref sig .tc .vmem S256x2048 .bf16 :=
  (cwM.slice (Rect.unit (s := S4x256x2048) ![h, 0, 0] S1x256x2048.size hh) (fun _ => rfl)).squeeze S256x2048 squeezes_S1x256x2048_S256x2048
/-- A slot of the buffer for the backward hops. -/
abbrev ccwS (h : ℕ) (hh : ∀ a, (![h, 0, 0] : Fin 3 → ℕ) a + S1x256x2048.size a ≤ S3x256x2048.size a) : Memref sig .tc .vmem S256x2048 .bf16 :=
  (ccwM.slice (Rect.unit (s := S3x256x2048) ![h, 0, 0] S1x256x2048.size hh) (fun _ => rfl)).squeeze S256x2048 squeezes_S1x256x2048_S256x2048

/-! ## Contents -/

variable (m : (ℓ : Loc nD τ sig) → Buf (Elt F) ℓ)

/-- The device's block of the partial sums, as staged. -/
def xs (c : Dev nD) : (cc0_stg0_0 : Ref sig .tc).ty.Contents (Elt F) :=
  (win0_0.blk (0 : Fin 1)).view.read (Elt F) (m ((c : Thread nD τ).loc main_arg0))
/-- The scale vector, as staged. -/
def gs (c : Dev nD) : (cc0_stg1_0 : Ref sig .tc).ty.Contents (Elt F) :=
  (win0_1.blk (0 : Fin 1)).view.read (Elt F) (m ((c : Thread nD τ).loc main_arg2))

/-- What a device sends in the first exchange: the half of its rows the partner keeps. -/
def a1s (c : Dev nD) : Vec F S128x2048 .bf16 :=
  k0_pay2 (xM.view.readAt (Elt F) (Rect.unit (s := S1x2048x2048) (k0_off2 c) S1x128x2048.size (k0_off2_inb c)).toLoadRect (xs m c))
/-- The accumulator: the partner's rows plus the device's own. -/
def acc (c : Dev nD) : Vec F S128x2048 .bf16 :=
  k0_pay3 (a1s m (zA c)) (xM.view.readAt (Elt F) (Rect.unit (s := S1x2048x2048) (k0_off3 c) S1x128x2048.size (k0_off3_inb c)).toLoadRect (xs m c))
/-- What arrives in the second exchange. -/
def a2r (c : Dev nD) : Vec F S64x2048 .bf16 := (accOut (zB c)).view.read (Elt F) (acc m (zB c))
/-- The residual rows the local copy brings. -/
def rc (c : Dev nD) : Vec F S64x2048 .f32 := (resW c).view.read (Elt F) (m ((c : Thread nD τ).loc main_arg1))
/-- The part of the accumulator that stays. -/
def accIn (c : Dev nD) : Vec F S64x2048 .bf16 :=
  accM.view.readAt (Elt F) (Rect.unit (s := S128x2048) (k0_off5 c) S64x2048.size (k0_off5_inb c)).toLoadRect (acc m c)
/-- The normalised quarter of a device, in the wide format. -/
def nrm (c : Dev nD) : FVec F S64x2048 .f32 := k0_pay4 (a2r m c) (accIn m c) (rc m c) (gs m c)
/-- The normalised quarter of a device, in the narrow format. -/
def nrb (c : Dev nD) : FVec F S64x2048 .bf16 := k0_pay5 (a2r m c) (accIn m c) (rc m c) (gs m c)

/-- The device that computes quarter `q` of block `b`. -/
def maker (b q : ℕ) : Dev nD := ⟨(4 * (b % 8) + (q / 2 % 2 + 2 * (q % 2))) % 32, Nat.mod_lt _ (by decide)⟩

theorem maker_own : ∀ c : Dev nD, maker (blk c) (2 * hf c + qt c) = c := by decide +kernel
theorem own_eq : ∀ c : Dev nD, own c = 64 * (2 * hf c + qt c) := by decide +kernel

/-- The normalised block number `b`: its four quarters. -/
def nb (b : ℕ) : Vec F S256x2048 .bf16 := fun i =>
  nrb m (maker b ((i 0 : Fin 256).val / 64)) (ix2 (⟨(i 0 : Fin 256).val % 64, Nat.mod_lt _ (by decide)⟩ : Fin 64) (i 1 : Fin 2048))
/-- The forward buffer: slot `h` holds the block of the device `h + 1` places back. -/
def cwG (c : Dev nD) : Vec F S4x256x2048 .bf16 := fun i =>
  nb m (blk (ccw^[(i 0 : Fin 4).val + 1] c)) (ix2 (i 1 : Fin 256) (i 2 : Fin 2048))
/-- The backward buffer: slot `h` holds the block of the device `h + 1` places on. -/
def ccwG (c : Dev nD) : Vec F S3x256x2048 .bf16 := fun i =>
  nb m (blk (cw^[(i 0 : Fin 3).val + 1] c)) (ix2 (i 1 : Fin 256) (i 2 : Fin 2048))
/-- The normalised block, widened again. -/
def nbx (b : ℕ) : FVec F S256x2048 .f32 := extf .f32 (nb m b) bitsLt_bf16_f32
/-- The result: the device's own quarter as computed, every other row narrowed and widened. -/
def outG (c : Dev nD) : Vec F S2048x2048 .f32 := fun i =>
  if (i 0 : Fin 2048).val / 64 = 4 * blk c + (2 * hf c + qt c) then
    nrm m c (ix2 (⟨(i 0 : Fin 2048).val % 64, Nat.mod_lt _ (by decide)⟩ : Fin 64) (i 1 : Fin 2048))
  else nbx m ((i 0 : Fin 2048).val / 256) (ix2 (⟨(i 0 : Fin 2048).val % 256, Nat.mod_lt _ (by decide)⟩ : Fin 256) (i 1 : Fin 2048))

/-! ## Sets of rows and slots -/

/-- Rows `lo ≤ r < lo + n` of the normalised block's buffer. -/
def blkRows (lo n : ℕ) : Finset S256x2048.Idx := Finset.univ.filter fun i => lo ≤ (i 0 : Fin 256).val ∧ (i 0 : Fin 256).val < lo + n
/-- Slot `h` of the forward buffer. -/
def cwSlot (h : ℕ) : Finset S4x256x2048.Idx := Finset.univ.filter fun i => (i 0 : Fin 4).val = h
/-- Slot `h` of the backward buffer. -/
def ccwSlot (h : ℕ) : Finset S3x256x2048.Idx := Finset.univ.filter fun i => (i 0 : Fin 3).val = h
/-- Rows `lo ≤ r < lo + n` of the accumulator. -/
def accRows (lo n : ℕ) : Finset S128x2048.Idx := Finset.univ.filter fun i => lo ≤ (i 0 : Fin 128).val ∧ (i 0 : Fin 128).val < lo + n

theorem mem_unit2 {R o n : ℕ} {off : Fin 2 → ℕ} (h : off = ![o, 0]) (inb : ∀ a, off a + (⟨2, ![n, 2048]⟩ : Shape).size a ≤ (⟨2, ![R, 2048]⟩ : Shape).size a)
    (i : (⟨2, ![R, 2048]⟩ : Shape).Idx) :
    i ∈ (Rect.unit (s := ⟨2, ![R, 2048]⟩) off (⟨2, ![n, 2048]⟩ : Shape).size inb).set ↔ o ≤ (i 0 : Fin R).val ∧ (i 0 : Fin R).val < o + n := by
  subst h
  rw [Rect.mem_set_unit, Fin.forall_fin_two]
  exact ⟨fun h => h.1, fun h => ⟨h, Nat.zero_le _, by have hl : (i 1 : Fin 2048).val < 2048 := (i 1 : Fin 2048).isLt; show (i 1 : Fin 2048).val < 0 + 2048; omega⟩⟩

theorem mem_unit3 {R o : ℕ} {off : Fin 3 → ℕ} (h : off = ![o, 0, 0]) (inb : ∀ a, off a + S1x256x2048.size a ≤ (⟨3, ![R, 256, 2048]⟩ : Shape).size a)
    (i : (⟨3, ![R, 256, 2048]⟩ : Shape).Idx) :
    i ∈ (Rect.unit (s := ⟨3, ![R, 256, 2048]⟩) off S1x256x2048.size inb).set ↔ (i 0 : Fin R).val = o := by
  subst h
  rw [Rect.mem_set_unit]
  constructor
  · intro h
    have h0 := h 0
    have h1 : o ≤ (i 0 : Fin R).val := h0.1
    have h2 : (i 0 : Fin R).val < o + 1 := h0.2
    omega
  · intro h a
    match a with
    | ⟨0, _⟩ => exact ⟨le_of_eq h.symm, by show (i 0 : Fin R).val < o + 1; omega⟩
    | ⟨1, _⟩ => exact ⟨Nat.zero_le _, by have hl : (i 1 : Fin 256).val < 256 := (i 1 : Fin 256).isLt; show (i 1 : Fin 256).val < 0 + 256; omega⟩
    | ⟨2, _⟩ => exact ⟨Nat.zero_le _, by have hl : (i 2 : Fin 2048).val < 2048 := (i 2 : Fin 2048).isLt; show (i 2 : Fin 2048).val < 0 + 2048; omega⟩

theorem set_blkQ (c : Dev nD) : (blkQ c).view.set = blkRows (own c) 64 := by
  show ((View.whole cc0_scratch0).slice _).set = _
  rw [View.set_slice_whole]
  ext i
  rw [blkRows, Finset.mem_filter]
  exact (mem_unit2 (off7_eq c) _ i).trans ⟨fun h => ⟨Finset.mem_univ _, h⟩, fun h => h.2⟩

theorem set_blkH (c : Dev nD) : (blkH c).view.set = blkRows (128 * hf c) 128 := by
  show ((View.whole cc0_scratch0).slice _).set = _
  rw [View.set_slice_whole]
  ext i
  rw [blkRows, Finset.mem_filter]
  exact (mem_unit2 (off9_eq c) _ i).trans ⟨fun h => ⟨Finset.mem_univ _, h⟩, fun h => h.2⟩

theorem set_accOut (c : Dev nD) : (accOut c).view.set = accRows (64 * qt (zB c)) 64 := by
  show ((View.whole cc0_scratch3).slice _).set = _
  rw [View.set_slice_whole]
  ext i
  rw [accRows, Finset.mem_filter]
  exact (mem_unit2 (off4_eq c) _ i).trans ⟨fun h => ⟨Finset.mem_univ _, h⟩, fun h => h.2⟩

theorem set_cwS (h : ℕ) (hh) : (cwS h hh).view.set = cwSlot h := by
  show (((View.whole cc0_scratch6).slice _).reshape _ _).set = _
  rw [View.set_reshape, View.set_slice_whole]
  ext i
  rw [cwSlot, Finset.mem_filter]
  exact (mem_unit3 rfl _ i).trans ⟨fun h => ⟨Finset.mem_univ _, h⟩, fun h => h.2⟩

theorem set_ccwS (h : ℕ) (hh) : (ccwS h hh).view.set = ccwSlot h := by
  show (((View.whole cc0_scratch7).slice _).reshape _ _).set = _
  rw [View.set_reshape, View.set_slice_whole]
  ext i
  rw [ccwSlot, Finset.mem_filter]
  exact (mem_unit3 rfl _ i).trans ⟨fun h => ⟨Finset.mem_univ _, h⟩, fun h => h.2⟩

/-! ## What transfers carry -/

/-- A buffer that agrees with `G` as read through a view agrees with `G` on that view. -/
theorem agree_of_read {sp : Space} {s : Shape} {e : EltTy} (v : View sig .tc sp s e) (f G : v.ty.Contents (Elt F))
    (w : s.Idx → Elt F e) (h : w = v.read (Elt F) G) : ∀ i ∈ v.set, v.write (Elt F) f w Finset.univ i = G i := by
  intro i hi
  obtain ⟨x, -, rfl⟩ := Finset.mem_map.mp hi
  rw [View.write_emb, if_pos (Finset.mem_univ _), h]
  show cast _ (cast _ _) = _
  rw [cast_cast, cast_eq]

theorem emb_unit2 {R o n : ℕ} {off : Fin 2 → ℕ} (h : off = ![o, 0]) (inb : ∀ a, off a + (⟨2, ![n, 2048]⟩ : Shape).size a ≤ (⟨2, ![R, 2048]⟩ : Shape).size a)
    (i : (⟨2, ![n, 2048]⟩ : Shape).Idx) (hb : o + (i 0 : Fin n).val < R) :
    (Rect.unit (s := ⟨2, ![R, 2048]⟩) off (⟨2, ![n, 2048]⟩ : Shape).size inb).idx i = ix2 (⟨o + (i 0 : Fin n).val, hb⟩ : Fin R) (i 1 : Fin 2048) := by
  subst h
  funext a
  apply Fin.ext
  match a with
  | ⟨0, _⟩ => show o + 1 * (i 0 : Fin n).val = o + (i 0 : Fin n).val; omega
  | ⟨1, _⟩ => show 0 + 1 * (i 1 : Fin 2048).val = (i 1 : Fin 2048).val; omega

/-- The quarter of a device, read out of its block. -/
theorem read_blkQ (c : Dev nD) : (blkQ c).view.read (Elt F) (nb m (blk c)) = nrb m c := by
  funext i
  have hi : (i 0 : Fin 64).val < 64 := (i 0 : Fin 64).isLt
  have hb : own c + (i 0 : Fin 64).val < 256 := by
    have := hf_lt c; have := qt_lt c; unfold own; omega
  show nb m (blk c) ((Rect.unit (s := S256x2048) (k0_off7 c) S64x2048.size (k0_off7_inb c)).idx i) = _
  rw [emb_unit2 (off7_eq c) _ i hb]
  have h1 : (own c + (i 0 : Fin 64).val) / 64 = 2 * hf c + qt c := by rw [own_eq]; omega
  have h2 : (own c + (i 0 : Fin 64).val) % 64 = (i 0 : Fin 64).val := by rw [own_eq]; omega
  show nrb m (maker (blk c) ((own c + (i 0 : Fin 64).val) / 64)) (ix2 (⟨(own c + (i 0 : Fin 64).val) % 64, _⟩ : Fin 64) (i 1 : Fin 2048)) = _
  rw [h1, maker_own]
  refine congrArg (nrb m c) ?_
  refine Eq.trans ?_ (Idealize.ShloMosaic.ValueIdx.eq_ix2 i).symm
  exact congrArg (fun a => ix2 a (i 1 : Fin 2048)) (Fin.ext h2)

/-- A slot read out of a buffer of slots. -/
theorem read_cwS (h : ℕ) (hh) (h4 : h < 4) (f : Vec F S4x256x2048 .bf16) :
    (cwS h hh).view.read (Elt F) f = fun i => f (ix3 (⟨h, h4⟩ : Fin 4) (i 0 : Fin 256) (i 1 : Fin 2048)) := by
  funext i
  rw [Memref.read_squeeze_slice _ _ _ _ shapeCasts_S1x256x2048_S256x2048]
  refine (congrArg _ (Idealize.ShloMosaic.ValueIdx.eq_ix2 i)).trans ((ValueIdx.shapeCast_1ab_ab_apply _ _ _ _).trans ?_)
  refine congrArg f (funext fun a => Fin.ext ?_)
  match a with
  | ⟨0, _⟩ => rfl
  | ⟨1, _⟩ => show 0 + 1 * (i 0 : Fin 256).val = (i 0 : Fin 256).val; omega
  | ⟨2, _⟩ => show 0 + 1 * (i 1 : Fin 2048).val = (i 1 : Fin 2048).val; omega

theorem read_ccwS (h : ℕ) (hh) (h4 : h < 3) (f : Vec F S3x256x2048 .bf16) :
    (ccwS h hh).view.read (Elt F) f = fun i => f (ix3 (⟨h, h4⟩ : Fin 3) (i 0 : Fin 256) (i 1 : Fin 2048)) := by
  funext i
  rw [Memref.read_squeeze_slice _ _ _ _ shapeCasts_S1x256x2048_S256x2048]
  refine (congrArg _ (Idealize.ShloMosaic.ValueIdx.eq_ix2 i)).trans ((ValueIdx.shapeCast_1ab_ab_apply _ _ _ _).trans ?_)
  refine congrArg f (funext fun a => Fin.ext ?_)
  match a with
  | ⟨0, _⟩ => rfl
  | ⟨1, _⟩ => show 0 + 1 * (i 0 : Fin 256).val = (i 0 : Fin 256).val; omega
  | ⟨2, _⟩ => show 0 + 1 * (i 1 : Fin 2048).val = (i 1 : Fin 2048).val; omega

/-- Slot `h` of the forward buffer holds a finished block. -/
theorem cwG_slot (c : Dev nD) (h : ℕ) (hh) (h4 : h < 4) : (cwS h hh).view.read (Elt F) (cwG m c) = nb m (blk (ccw^[h + 1] c)) := by
  rw [read_cwS h hh h4]
  exact funext fun i => congrArg (nb m _) (Idealize.ShloMosaic.ValueIdx.eq_ix2 i).symm

theorem ccwG_slot (c : Dev nD) (h : ℕ) (hh) (h3 : h < 3) : (ccwS h hh).view.read (Elt F) (ccwG m c) = nb m (blk (cw^[h + 1] c)) := by
  rw [read_ccwS h hh h3]
  exact funext fun i => congrArg (nb m _) (Idealize.ShloMosaic.ValueIdx.eq_ix2 i).symm

/-- The first forward hop: a device's own block is slot 0 of the next device's buffer. -/
theorem cw_first (c : Dev nD) (hh) : (cwS 0 hh).view.read (Elt F) (cwG m (cw c)) = nb m (blk c) := by
  rw [cwG_slot m _ 0 hh (by decide)]; show nb m (blk (ccw (cw c))) = _; rw [ccw_cw]

/-- A later forward hop: a device's slot is the next slot of the next device's buffer. -/
theorem cw_step (c : Dev nD) (h : ℕ) (h4 : h + 1 < 4) (hh hh') :
    (cwS (h + 1) hh).view.read (Elt F) (cwG m (cw c)) = (cwS h hh').view.read (Elt F) (cwG m c) := by
  rw [cwG_slot m _ _ hh h4, cwG_slot m _ _ hh' (by omega), Function.iterate_succ_apply, ccw_cw]

theorem ccw_first (c : Dev nD) (hh) : (ccwS 0 hh).view.read (Elt F) (ccwG m (ccw c)) = nb m (blk c) := by
  rw [ccwG_slot m _ 0 hh (by decide)]; show nb m (blk (cw (ccw c))) = _; rw [cw_ccw]

theorem ccw_step (c : Dev nD) (h : ℕ) (h4 : h + 1 < 3) (hh hh') :
    (ccwS (h + 1) hh).view.read (Elt F) (ccwG m (ccw c)) = (ccwS h hh').view.read (Elt F) (ccwG m c) := by
  rw [ccwG_slot m _ _ hh h4, ccwG_slot m _ _ hh' (by omega), Function.iterate_succ_apply, cw_ccw]

/-! ## What the kernel stores into the result -/

/-- Own rows. -/
theorem out_own (c : Dev nD) (i : S64x2048.Idx) :
    outG m c ((Rect.unit (s := S2048x2048) (k0_off8 c) S64x2048.size (k0_off8_inb c)).idx i) = nrm m c i := by
  have hi : (i 0 : Fin 64).val < 64 := (i 0 : Fin 64).isLt
  have := hf_lt c; have := qt_lt c; have := blk_lt c; have ho := own_eq c
  rw [emb_unit2 (off8_eq c) _ i (by omega)]
  show ite ((256 * blk c + own c + (i 0 : Fin 64).val) / 64 = _) (nrm m c (ix2 (⟨(256 * blk c + own c + (i 0 : Fin 64).val) % 64, _⟩ : Fin 64) (i 1 : Fin 2048))) _ = _
  rw [if_pos (by omega)]
  refine congrArg (nrm m c) (Eq.trans ?_ (Idealize.ShloMosaic.ValueIdx.eq_ix2 i).symm)
  exact congrArg (fun a => ix2 a (i 1 : Fin 2048)) (Fin.ext (by show _ % 64 = _; omega))

/-- Rows of block `b` that are not the device's own: the block, narrowed and widened. -/
theorem out_other (c : Dev nD) (b o n : ℕ) {off : Fin 2 → ℕ} (h : off = ![256 * b + o, 0])
    (inb : ∀ a, off a + (⟨2, ![n, 2048]⟩ : Shape).size a ≤ S2048x2048.size a)
    (i : (⟨2, ![n, 2048]⟩ : Shape).Idx) (hb : b < 8) (ho : o + (i 0 : Fin n).val < 256)
    (hne : (256 * b + o + (i 0 : Fin n).val) / 64 ≠ 4 * blk c + (2 * hf c + qt c)) :
    outG m c ((Rect.unit (s := S2048x2048) off (⟨2, ![n, 2048]⟩ : Shape).size inb).idx i) = nbx m b (ix2 (⟨o + (i 0 : Fin n).val, ho⟩ : Fin 256) (i 1 : Fin 2048)) := by
  rw [emb_unit2 h _ i (by omega)]
  show ite ((256 * b + o + (i 0 : Fin n).val) / 64 = _) _ (nbx m ((256 * b + o + (i 0 : Fin n).val) / 256) (ix2 (⟨(256 * b + o + (i 0 : Fin n).val) % 256, _⟩ : Fin 256) (i 1 : Fin 2048))) = _
  rw [if_neg hne]
  have h1 : (256 * b + o + (i 0 : Fin n).val) / 256 = b := by omega
  rw [h1]
  exact congrArg (nbx m b) (congrArg (fun a => ix2 a (i 1 : Fin 2048)) (Fin.ext (by show (256 * b + o + (i 0 : Fin n).val) % 256 = o + (i 0 : Fin n).val; omega)))

end Cert.KernelIdeal.Cube
-- ==== Proof.KernelIdeal.Sched.lean ====
/- The protocol of the kernel: for each of the 24 semaphores of each device who raises it, by how much,
   and which part of which buffer the raise hands over; what each device still owes at each moment of its
   run; and the order of the semaphores by which no wait can block forever.

   Each semaphore serves ONE round. The barrier's round has four raises of one unit, one from each
   partner; a raise hands over the buffers its sender will let the receiver write. The round of a
   transfer's semaphore has one raise, of the transfer's size: at the sender it returns the memory read,
   at the receiver it hands over the memory written, at its final contents. -/
module

public import proofs.«01_k».proof.Proof.KernelIdeal.Content

@[expose] public section

noncomputable section

namespace Cert.KernelIdeal.Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Parts of buffers -/

/-- Device `c` holds the memory of a view at a share, with the contents `G` there. -/
abbrev vpts (c : Dev nD) {sp : Space} {s : Shape} {e : EltTy} (M : Memref sig .tc sp s e) (q : PosShare TreeShare)
    (G : M.view.ty.Contents (Elt F)) : sProp 𝕄 :=
  M.view.loc (c : Thread nD τ) ↦[M.view.set]{q} G

/-- Device `c` holds the memory of a view outright, with some contents. -/
def vany (c : Dev nD) {sp : Space} {s : Shape} {e : EltTy} (M : Memref sig .tc sp s e) : sProp 𝕄 :=
  iprop(∃ f : M.view.ty.Contents (Elt F), M.view.loc (c : Thread nD τ) ↦[M.view.set]{fullShare} f)

instance vany_storable (c : Dev nD) {sp : Space} {s : Shape} {e : EltTy} (M : Memref sig .tc sp s e) :
    BI.Storable (upEmb : UEmb _ 𝕄) (vany (F := F) c M) := by unfold vany; infer_instance

/-- The share of the memory a transfer reads while the device reads it too, and what is kept. -/
abbrev qL : PosShare TreeShare := fullShare.left
abbrev qR : PosShare TreeShare := fullShare.right

/-! ## Cells -/

abbrev kcell (x : Dev nD × Fin 24) : GSem nD τ sig := ((x.1 : Thread nD τ), csem x.2)

theorem kcell_injective : Function.Injective (kcell : Dev nD × Fin 24 → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- The size of a raise. -/
def amt (k : Fin 24) : ℕ :=
  match k with
  | ⟨0, _⟩ => 1
  | ⟨1, _⟩ => rcM.view.dmaCredit
  | ⟨2, _⟩ => a1rM.view.dmaCredit
  | ⟨3, _⟩ => a2rM.view.dmaCredit
  | ⟨4, _⟩ => a2rM.view.dmaCredit
  | ⟨5, _⟩ => a1rM.view.dmaCredit
  | ⟨13, _⟩ => a1rM.view.dmaCredit
  | ⟨14, _⟩ => a2rM.view.dmaCredit
  | ⟨15, _⟩ => a2rM.view.dmaCredit
  | ⟨16, _⟩ => a1rM.view.dmaCredit
  | ⟨_, _⟩ => blkM.view.dmaCredit

theorem amt_pos (k : Fin 24) : 0 < amt k := by
  unfold amt
  split <;> first | exact Nat.one_pos | exact View.dmaCredit_pos _ (by decide)

/-- What duty `d` of the semaphore `k` of device `c` hands over. -/
def pay (c : Dev nD) (k : Fin 24) (d : Fin 4) : sProp 𝕄 :=
  match k with
  | ⟨0, _⟩ =>
    match d with
    | ⟨0, _⟩ => iprop(vany (F := F) (zA c) a1rM ∗ vany (F := F) (zA c) (blkH c))
    | ⟨1, _⟩ => iprop(vany (F := F) (zB c) a2rM ∗ vany (F := F) (zB c) (blkQ c))
    | ⟨2, _⟩ => vany (F := F) (cw c) cwM
    | ⟨_, _⟩ => vany (F := F) (ccw c) ccwM
  | ⟨1, _⟩ => iprop(vpts c rcM fullShare (rc m c) ∗ vpts c (resW c) fullShare (m ((c : Thread nD τ).loc main_arg1)))
  | ⟨2, _⟩ => vpts c a1sM fullShare (a1s m c)
  | ⟨3, _⟩ => vpts c (accOut c) fullShare (acc m c)
  | ⟨4, _⟩ => vpts c (blkQ c) fullShare (nb m (blk c))
  | ⟨5, _⟩ => vpts c (blkH c) qL (nb m (blk c))
  | ⟨6, _⟩ => vpts c blkM qL (nb m (blk c))
  | ⟨7, _⟩ => vpts c (cwS 0 inb_S4x256x2048_S1x256x2048_0_0_0) qL (cwG m c)
  | ⟨8, _⟩ => vpts c (cwS 1 inb_S4x256x2048_S1x256x2048_1_0_0) qL (cwG m c)
  | ⟨9, _⟩ => vpts c (cwS 2 inb_S4x256x2048_S1x256x2048_2_0_0) qL (cwG m c)
  | ⟨10, _⟩ => vpts c blkM qR.left (nb m (blk c))
  | ⟨11, _⟩ => vpts c (ccwS 0 inb_S3x256x2048_S1x256x2048_0_0_0) qL (ccwG m c)
  | ⟨12, _⟩ => vpts c (ccwS 1 inb_S3x256x2048_S1x256x2048_1_0_0) qL (ccwG m c)
  | ⟨13, _⟩ => vpts c a1rM fullShare (a1s m (zA c))
  | ⟨14, _⟩ => vpts c a2rM fullShare (a2r m c)
  | ⟨15, _⟩ => vpts c (blkQ (zB c)) fullShare (nb m (blk c))
  | ⟨16, _⟩ => vpts c (blkH (zA c)) fullShare (nb m (blk c))
  | ⟨17, _⟩ => vpts c (cwS 0 inb_S4x256x2048_S1x256x2048_0_0_0) fullShare (cwG m c)
  | ⟨18, _⟩ => vpts c (cwS 1 inb_S4x256x2048_S1x256x2048_1_0_0) fullShare (cwG m c)
  | ⟨19, _⟩ => vpts c (cwS 2 inb_S4x256x2048_S1x256x2048_2_0_0) fullShare (cwG m c)
  | ⟨20, _⟩ => vpts c (cwS 3 inb_S4x256x2048_S1x256x2048_3_0_0) fullShare (cwG m c)
  | ⟨21, _⟩ => vpts c (ccwS 0 inb_S3x256x2048_S1x256x2048_0_0_0) fullShare (ccwG m c)
  | ⟨22, _⟩ => vpts c (ccwS 1 inb_S3x256x2048_S1x256x2048_1_0_0) fullShare (ccwG m c)
  | ⟨_, _⟩ => vpts c (ccwS 2 inb_S3x256x2048_S1x256x2048_2_0_0) fullShare (ccwG m c)

instance pay_storable (c : Dev nD) (k : Fin 24) (d : Fin 4) : BI.Storable (upEmb : UEmb _ 𝕄) (pay m c k d) := by
  unfold pay vpts
  (repeat' split) <;> infer_instance

/-- The schedule: one round, four raises at a barrier and one at every other semaphore. -/
def rd : Rounds.Schedule (GSem nD τ sig) (Fin 4) 𝕄 where
  duties g r := if r = 0 ∧ g.1.2 = .tc then (if code g.2 = 0 then Finset.univ else {0}) else ∅
  unitless _ := False
  amount g _ _ := amt (code g.2)
  payload g _ d := pay m g.1.1 (code g.2) d
  amount_pos g _ _ _ := amt_pos _

instance rd_payload_storable (g : GSem nD τ sig) (r : ℕ) (d : Fin 4) : BI.Storable (upEmb : UEmb _ 𝕄) ((rd m).payload g r d) :=
  pay_storable m g.1.1 (code g.2) d

theorem duties_later (g : GSem nD τ sig) : ∀ r, 1 ≤ r → (rd m).duties g r = ∅ :=
  fun r hr => by dsimp only [rd]; rw [if_neg fun h => by omega]

theorem duties_bar (c : Dev nD) : (rd m).duties (kcell (c, 0)) 0 = Finset.univ := by
  dsimp only [rd]; rw [if_pos ⟨rfl, rfl⟩, code_csem, if_pos rfl]

theorem duties_one (c : Dev nD) (k : Fin 24) (hk : k ≠ 0) : (rd m).duties (kcell (c, k)) 0 = {0} := by
  dsimp only [rd]; rw [if_pos ⟨rfl, rfl⟩, code_csem, if_neg hk]

theorem mem_duties (c : Dev nD) (k : Fin 24) (d : Fin 4) (h : k = 0 ∨ d = 0) : d ∈ (rd m).duties (kcell (c, k)) 0 := by
  by_cases hk : k = 0
  · subst hk; rw [duties_bar]; exact Finset.mem_univ _
  · rw [duties_one m c k hk, Finset.mem_singleton]; exact h.resolve_left hk

theorem amount_eq (c : Dev nD) (k : Fin 24) (d : Fin 4) : (rd m).amount (kcell (c, k)) 0 d = amt k := by
  show amt (code (csem k)) = amt k; rw [code_csem]

theorem payload_eq (c : Dev nD) (k : Fin 24) (d : Fin 4) : (rd m).payload (kcell (c, k)) 0 d = pay m c k d := by
  show pay m c (code (csem k)) d = pay m c k d; rw [code_csem]

/-- The units a round of a semaphore takes in. -/
def units (k : Fin 24) : ℕ := if k = 0 then 4 else amt k

theorem expect_eq (c : Dev nD) (k : Fin 24) : (rd m).expect (kcell (c, k)) 0 = units k := by
  unfold Schedule.expect Schedule.amountOf units
  by_cases hk : k = 0
  · subst hk
    rw [duties_bar, Finset.sum_congr rfl fun d _ => amount_eq m c 0 d, if_pos rfl]; decide
  · rw [duties_one m c k hk, Finset.sum_singleton, amount_eq, if_neg hk]

/-- What a completed round hands over. -/
def got (c : Dev nD) (k : Fin 24) : sProp 𝕄 :=
  if k = 0 then iprop(pay m c k 0 ∗ pay m c k 1 ∗ pay m c k 2 ∗ pay m c k 3) else pay m c k 0

theorem rest_eq (c : Dev nD) (k : Fin 24) :
    bigSep ((rd m).duties (kcell (c, k)) 0 \ ∅) (fun d => (rd m).payload (kcell (c, k)) 0 d) = got m c k := by
  rw [Finset.sdiff_empty]
  unfold got
  by_cases hk : k = 0
  · subst hk
    rw [duties_bar, if_pos rfl, bigSep_univ_eq_bigSepL [(0 : Fin 4), 1, 2, 3] (by decide) (by decide), bigSepL_cons_cons, bigSepL_cons_cons, bigSepL_cons_cons, bigSepL_singleton,
      payload_eq, payload_eq, payload_eq, payload_eq]
    rfl
  · rw [duties_one m c k hk, bigSep_singleton, payload_eq, if_neg hk]

/-! ## What a device owes -/

/-- The four partners, numbered, and their inverses. -/
def peer : Fin 4 → Dev nD → Dev nD
  | ⟨0, _⟩ => zA
  | ⟨1, _⟩ => zB
  | ⟨2, _⟩ => cw
  | ⟨_, _⟩ => ccw
def peerInv : Fin 4 → Dev nD → Dev nD
  | ⟨0, _⟩ => zA
  | ⟨1, _⟩ => zB
  | ⟨2, _⟩ => ccw
  | ⟨_, _⟩ => cw

theorem peer_inv : ∀ (n : Fin 4) (c : Dev nD), peer n (peerInv n c) = c := by decide +kernel
theorem inv_peer : ∀ (n : Fin 4) (c : Dev nD), peerInv n (peer n c) = c := by decide +kernel

/-- The raises a device makes at its partners' semaphores, in the order of its run: which semaphore, of
    which partner, under which duty. -/
def raises : List (Fin 24 × Fin 4 × Fin 4) :=
  [(0, 0, 0), (0, 1, 1), (0, 2, 3), (0, 3, 2),
   (13, 0, 0), (14, 1, 0), (15, 1, 0), (16, 0, 0),
   (17, 2, 0), (21, 3, 0), (18, 2, 0), (22, 3, 0), (19, 2, 0), (23, 3, 0), (20, 2, 0)]

/-- The tally of a list of raises of device `c`. -/
def owed (c : Dev nD) : List (Fin 24 × Fin 4 × Fin 4) → CellTallies nD τ sig Unit
  | [] => 0
  | x :: l => owed c l + tallyAt (kcell (peer x.2.1 c, x.1)) () (amt x.1)

/-- Device `c` still owes the raises from number `i` on, whatever it has waited for. -/
def ow (c : Dev nD) (i : ℕ) : sProp 𝕄 := iprop(∃ W, owes (c : Thread nD τ) (owed c (raises.drop i)) W)

theorem owed_pos {c : Dev nD} {g : GSem nD τ sig} {u : Unit} :
    ∀ {l : List (Fin 24 × Fin 4 × Fin 4)}, 0 < owed c l g u → ∃ x ∈ l, g = kcell (peer x.2.1 c, x.1)
  | [], h => absurd h (Nat.lt_irrefl 0)
  | x :: l, h => by
    unfold owed at h
    rw [Pi.add_apply, Finsupp.add_apply, tallyAt_apply] at h
    by_cases hg : g = kcell (peer x.2.1 c, x.1) ∧ u = ()
    · exact ⟨x, List.mem_cons_self, hg.1⟩
    · rw [if_neg hg, Nat.add_zero] at h
      obtain ⟨y, hy, e⟩ := owed_pos h
      exact ⟨y, List.mem_cons_of_mem _ hy, e⟩

/-! ## The order of the semaphores -/

def L (g : GSem nD τ sig) : Finset Unit := if g.1.2 = .tc then {()} else ∅

theorem L_of_ne (g : GSem nD τ sig) (h : g.1.2 ≠ .tc) : L g = ∅ := if_neg h
theorem L_tc (c : Dev nD) (sm : SemLoc sig) : L ((c : Thread nD τ), sm) = {()} := if_pos rfl

/-- The place of a semaphore in the order: what a device waits for on its own first, then the barrier,
    the exchanges of the group, the hops. -/
def place (k : Fin 24) : ℕ :=
  match k with
  | ⟨0, _⟩ => 1
  | ⟨13, _⟩ => 2
  | ⟨14, _⟩ => 3
  | ⟨15, _⟩ => 4
  | ⟨16, _⟩ => 5
  | ⟨17, _⟩ => 6
  | ⟨18, _⟩ => 7
  | ⟨19, _⟩ => 8
  | ⟨20, _⟩ => 9
  | ⟨21, _⟩ => 6
  | ⟨22, _⟩ => 7
  | ⟨23, _⟩ => 8
  | ⟨_, _⟩ => 0

def lv (g : GSem nD τ sig) (_ : Unit) : ℕ := if csem (code g.2) = g.2 then place (code g.2) else 0

theorem lv_kcell (c : Dev nD) (k : Fin 24) : lv (kcell (c, k)) () = place k := by
  show ite (csem (code (csem k)) = csem k) (place (code (csem k))) 0 = place k
  rw [code_csem, if_pos rfl]

/-- A wait at a semaphore below everything still owed may be entered. -/
theorem mayWait_of (c : Dev nD) (sm : SemLoc sig) (l : List (Fin 24 × Fin 4 × Fin 4)) (n : ℕ)
    (hn : lv ((c : Thread nD τ), sm) () ≤ n) (h : ∀ x ∈ l, n < place x.1) :
    (levAts L lv : sProp 𝕄) ⊢ MayWait (c : Thread nD τ) sm () (owed c l) :=
  MayOwe.of_cut (L := L) (lev := lv) n (fun p hp => by rw [Finset.mem_singleton.mp hp, L_tc]; exact Finset.mem_singleton_self _)
    (fun g u hg => by
      obtain ⟨x, -, rfl⟩ := owed_pos hg
      exact Finset.mem_singleton_self _)
    (fun p hp => by rw [Finset.mem_singleton.mp hp]; exact hn)
    (fun g u hg => by
      obtain ⟨x, hx, rfl⟩ := owed_pos hg
      show n < lv (kcell (peer x.2.1 c, x.1)) ()
      rw [lv_kcell]; exact h x hx)

/-- A semaphore the kernel does not name (one that stages an argument or the result) is below everything. -/
theorem lv_other (c : Dev nD) (sm : SemLoc sig) (h : ∀ k, csem k ≠ sm) : lv ((c : Thread nD τ), sm) () = 0 := if_neg (h _)

/-! ## The records every device shares -/

/-- For every semaphore of every device: its protocol is in force, and its round has begun. -/
def records (K : Dev nD × Fin 24 → ℕ) : sProp 𝕄 :=
  bigSep Finset.univ fun x : Dev nD × Fin 24 => iprop(cellInv ER (rd m) (K x) (kcell x) ∗ reached ER (kcell x) 0)

instance records_persistent (K : Dev nD × Fin 24 → ℕ) : BI.Persistent (records m K) := by
  unfold records; infer_instance

theorem records_at (K : Dev nD × Fin 24 → ℕ) (c : Dev nD) (k : Fin 24) :
    records m K ⊢ iprop(cellInv ER (rd m) (K (c, k)) (kcell (c, k)) ∗ reached ER (kcell (c, k)) 0) :=
  bigSep_elim (Finset.mem_univ (c, k))

end Cert.KernelIdeal.Cube
-- ==== Proof.KernelIdeal.Steps.lean ====
/- One step of the kernel at a time: a signal to a partner's barrier, a transfer to a partner, the local
   copy, a wait. Each takes the step's own semaphores' ghost state and gives back what the protocol says,
   and a wait also retires its semaphore (its counter is at zero and the device's again). -/
module

public import proofs.«01_k».proof.Proof.KernelIdeal.Sched

@[expose] public section

noncomputable section

namespace Cert.KernelIdeal.Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 24 → ℕ)

abbrev 𝒱₀ : Variants := Variants.none

/-- Device `c` runs `p` and ends in `Q`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- The token of duty `d` of semaphore `k` of device `c`. -/
abbrev tok (c : Dev nD) (k : Fin 24) (d : Fin 4) : sProp 𝕄 := dutyTok ER (kcell (c, k)) 0 d
/-- Device `c` stands before the round of its semaphore `k`. -/
abbrev at0 (c : Dev nD) (k : Fin 24) : sProp 𝕄 := atPos ER (kcell (c, k)) 0 ∅ 0
/-- Device `c` may wait for `n` units at its semaphore `k`. -/
abbrev crd (c : Dev nD) (k : Fin 24) (n : ℕ) : sProp 𝕄 := cred (tallyAt (kcell (c, k)) () n)
/-- The semaphore `k` of device `c` is at zero, and no longer in use. -/
abbrev done (c : Dev nD) (k : Fin 24) : sProp 𝕄 := semVal (kcell (c, k)) 0

/-- A signal to a partner's barrier hands the duty's memory over. -/
theorem signal_step (c n : Dev nD) (i : ℕ) (p d : Fin 4) (hn : n = peer p c)
    (hi : raises.drop i = (0, p, d) :: raises.drop (i + 1)) {sem : Sem sig} (hs : SemLoc.reg sem = csem 0)
    {α : Type} {Q : α → sProp 𝕄} {k : PUnit → Prog (TpuEff nD τ sig (Elt F) Λ₀ .tc) α} :
    iprop(records m K ∗ ow (F := F) c i ∗ tok (F := F) (peer p c) 0 d ∗ pay m (peer p c) 0 d)
      ⊢ iprop((ow (F := F) c (i + 1) -∗ run c (k ⟨⟩) Q)
          -∗ run c (.op (.semSignal (Dev.tc n : Thread nD τ) sem ((1 : ℕ) : ℤ)) k) Q) := by
  subst hn
  unfold ow
  rw [hi]
  iintro ⟨#HR, ⟨%W, HO⟩, Ht, Hp⟩ Hk
  ihave #Hr := (records_at m K (peer p c) 0) $$ HR
  icases Hr with ⟨#Hinv, #Hre⟩
  have hcell : ((Dev.tc (peer p c) : Thread nD τ), SemLoc.reg sem) = kcell (peer p c, 0) := by rw [hs]
  iapply (Rounds.wp_signal 𝒱₀ ER (rd m) (c : Thread nD τ) none (dst := (peer p c : Thread nD τ)) (sem := sem) (κ := K (peer p c, 0)) (r := 0) (d := d) (k' := 1)
      (by rw [hcell]; exact mem_duties m _ 0 d (.inl rfl)) (by rw [hcell]; exact amount_eq m _ 0 d) () (owed c (raises.drop (i + 1)))
      (by rw [hcell]) (W := W)) $$ [HO Ht Hp]
  · rw [hcell, payload_eq]
    isplitr; · iexact Hinv
    isplitl [HO]; · iexact HO
    isplitl [Ht]; · iexact Ht
    isplitl [Hp]; · iexact Hp
    iexact Hre
  iintro HO
  iapply Hk
  iexists W
  iexact HO

/-- A transfer to a partner: the memory read comes back by the send semaphore, the memory written goes
    to the partner by its receive semaphore. -/
theorem send_step (c n : Dev nD) (i : ℕ) (kS kR : Fin 24) (p : Fin 4) (hn : n = peer p c)
    (hi : raises.drop i = (kR, p, 0) :: raises.drop (i + 1)) (hamt : amt kS = amt kR)
    {sp sp' : Space} {s : Shape} {e : EltTy} {src : Memref sig .tc sp s e} {dst : Memref sig .tc sp' s e}
    {hsc : dst.view.ref.isScScratch = false} {sS sem : DmaSem sig}
    (hS : SemLoc.dma sS = csem kS) (hR : SemLoc.dma sem = csem kR) (hN : dst.view.dmaCredit = amt kR)
    {hsrc : src.view.WordExact} {hdst : dst.view.WordExact}
    {hsem : DmaTarget.Typed sp (.dma sem) (.remote (Dev.tc n : Thread nD τ) dst (.dma sS) hsc)}
    (q : PosShare TreeShare) (fs : src.view.ty.Contents (Elt F)) (fd : dst.view.ty.Contents (Elt F))
    (hpayS : vpts c src q fs ⊢ pay m c kS 0)
    (hpayR : vpts (peer p c) dst fullShare (dst.view.write (Elt F) fd (src.view.read (Elt F) fs) Finset.univ) ⊢ pay m (peer p c) kR 0)
    {α : Type} {Q : α → sProp 𝕄} {k : PUnit → Prog (TpuEff nD τ sig (Elt F) Λ₀ .tc) α} :
    iprop(records m K ∗ vpts c src q fs ∗ vpts (peer p c) dst fullShare fd ∗ ow (F := F) c i ∗ tok (F := F) c kS 0 ∗ tok (F := F) (peer p c) kR 0)
      ⊢ iprop(((crd (F := F) c kS (amt kS) ∗ ow (F := F) c (i + 1)) -∗ run c (k ⟨⟩) Q)
          -∗ run c (.op (.enqueueDma src (.remote (Dev.tc n : Thread nD τ) dst (.dma sS) hsc) (.dma sem) hsrc hdst hsem) k) Q) := by
  subst hn
  unfold ow
  rw [hi]
  iintro ⟨#HR, Hs, Hd, ⟨%W, HO⟩, Ht, Htp⟩ Hk
  ihave #Hr := (records_at m K c kS) $$ HR
  icases Hr with ⟨#HinvS, #HreS⟩
  ihave #Hr' := (records_at m K (peer p c) kR) $$ HR
  icases Hr' with ⟨#HinvR, #HreR⟩
  have hcS : ((c : Thread nD τ), SemLoc.dma sS) = kcell (c, kS) := by rw [hS]
  have hcR : ((Dev.tc (peer p c) : Thread nD τ), SemLoc.dma sem) = kcell (peer p c, kR) := by rw [hR]
  iapply (Rounds.wp_send_pointsTo 𝒱₀ ER (rd m) (c : Thread nD τ) none (c' := (Dev.tc (peer p c) : Thread nD τ)) (κ₁ := K (c, kS)) (κ₂ := K (peer p c, kR))
      (src := src) (dst := dst) (sS := .dma sS) (sem := .dma sem) (q := q) (fs := fs)
      (r₁ := 0) (r₂ := 0) (d₁ := 0) (d₂ := 0) (fd := fd)
      (by rw [hcS]; exact mem_duties m _ kS 0 (.inr rfl)) (by rw [hcR]; exact mem_duties m _ kR 0 (.inr rfl))
      () () (amt kR) hN (by rw [hcS, amount_eq, hamt]) (by rw [hcR, amount_eq]) (owed c (raises.drop (i + 1)))
      (by rw [hcR]) (W := W) (by rw [hcS, payload_eq]; exact hpayS) (by rw [hcR, payload_eq]; exact hpayR)) $$ [Hs Hd HO Ht Htp]
  · rw [hcS, hcR]
    isplitr; · iexact HinvS
    isplitr; · iexact HinvR
    isplitl [Hs]; · iexact Hs
    isplitl [Hd]; · iexact Hd
    isplitl [HO]; · iexact HO
    isplitl [Ht]; · iexact Ht
    isplitr; · iexact HreS
    isplitl [Htp]; · iexact Htp
    iexact HreR
  iintro ⟨Hc, HO⟩
  iapply Hk
  isplitl [Hc]
  · rw [hcS, hamt]; iexact Hc
  · iexists W
    iexact HO

/-- The local copy: its semaphore returns both ends. -/
theorem copy_step (c : Dev nD) (kS : Fin 24)
    {sp sp' : Space} {s : Shape} {e : EltTy} {src : Memref sig .tc sp s e} {dst : Memref sig .tc sp' s e}
    {sem : DmaSem sig} (hS : SemLoc.dma sem = csem kS) (hN : dst.view.dmaCredit = amt kS)
    {hsrc : src.view.WordExact} {hdst : dst.view.WordExact} {hsem : DmaTarget.Typed (nD := nD) (τ := τ) (p := .tc) sp (.dma sem) (.here dst)}
    (q : PosShare TreeShare) (fs : src.view.ty.Contents (Elt F)) (fd : dst.view.ty.Contents (Elt F))
    (hpay : iprop(vpts c dst fullShare (dst.view.write (Elt F) fd (src.view.read (Elt F) fs) Finset.univ) ∗ vpts c src q fs) ⊢ pay m c kS 0)
    {α : Type} {Q : α → sProp 𝕄} {k : PUnit → Prog (TpuEff nD τ sig (Elt F) Λ₀ .tc) α} :
    iprop(records m K ∗ vpts c src q fs ∗ vpts c dst fullShare fd ∗ tok (F := F) c kS 0)
      ⊢ iprop((crd (F := F) c kS (amt kS) -∗ run c (k ⟨⟩) Q)
          -∗ run c (.op (.enqueueDma src (.here dst) (.dma sem) hsrc hdst hsem) k) Q) := by
  iintro ⟨#HR, Hs, Hd, Ht⟩ Hk
  ihave #Hr := (records_at m K c kS) $$ HR
  icases Hr with ⟨#HinvS, #HreS⟩
  have hcS : ((c : Thread nD τ), SemLoc.dma sem) = kcell (c, kS) := by rw [hS]
  iapply (Rounds.wp_copy_pointsTo 𝒱₀ ER (rd m) (c : Thread nD τ) none (κ := K (c, kS))
      (src := src) (dst := dst) (sem := .dma sem) (q := q) (fs := fs) (r := 0) (d := 0) (fd := fd)
      (by rw [hcS]; exact mem_duties m _ kS 0 (.inr rfl)) () (amt kS) hN (by rw [hcS, amount_eq])
      (by rw [hcS, payload_eq]; exact hpay)) $$ [Hs Hd Ht]
  · rw [hcS]
    isplitr; · iexact HinvS
    isplitl [Hs]; · iexact Hs
    isplitl [Hd]; · iexact Hd
    isplitl [Ht]; · iexact Ht
    iexact HreS
  iintro Hc
  iapply Hk
  rw [hcS]; iexact Hc

/-- A wait for the whole round of a semaphore that stands below all the device still owes. -/
theorem wait_step (c : Dev nD) (i : ℕ) (kS : Fin 24) (h : ∀ x ∈ raises.drop i, place kS < place x.1)
    {w : TpuEff nD τ sig (Elt F) Λ₀ .tc PUnit} {sm : SemLoc sig} {n : ℕ}
    (hw : ∀ k : PUnit → sProp 𝕄, wpE (defs₀ (F := F)) 𝒱₀ (c : Thread nD τ) none Set.univ w k = waitSpec (c : Thread nD τ) Set.univ sm n k)
    (hS : sm = csem kS) (hN : n = units kS)
    {α : Type} {Q : α → sProp 𝕄} {k : PUnit → Prog (TpuEff nD τ sig (Elt F) Λ₀ .tc) α} :
    iprop(records m K ∗ levAts L lv ∗ crd (F := F) c kS (units kS) ∗ at0 (F := F) c kS ∗ ow (F := F) c i)
      ⊢ iprop(((ow (F := F) c i ∗ done (F := F) c kS ∗ got m c kS) -∗ run c (k ⟨⟩) Q)
          -∗ run c (.op w k) Q) := by
  subst hS hN
  unfold ow
  iintro ⟨#HR, #Hlev, Hc, Hat, ⟨%W, HO⟩⟩ Hk
  ihave #Hr := (records_at m K c kS) $$ HR
  icases Hr with ⟨#Hinv, #Hre⟩
  iapply (Rounds.wp_wait_rest_token 𝒱₀ ER (rd m) (c : Thread nD τ) none (κ := K (c, kS)) hw (Set.mem_univ _) ()
      (O := owed c (raises.drop i)) (W := W) (R := 0) (m := 0) (T := ∅) (by rw [Nat.zero_add]; exact (expect_eq m c kS).symm)) $$ [Hc HO Hat]
  · isplitr; · iexact Hinv
    isplitl [Hc]; · iexact Hc
    isplitl [HO]; · iexact HO
    isplitr
    · iapply (mayWait_of c (csem kS) (raises.drop i) (place kS) (le_of_eq (lv_kcell c kS)) h); iexact Hlev
    iexact Hat
  iintro ⟨HO, Hat, -, Hpay⟩
  ihave Hp := (Entails.of_eq (rest_eq m c kS)) $$ Hpay
  imod (Rounds.cell_close ER (rd m) (Set.mem_univ (K (c, kS))) (fun h => h) (R := 0 + 1) (duties_later m (kcell (c, kS)))) $$ [Hat] with Hz
  · isplitr; · iexact Hinv
    iexact Hat
  iapply Hk
  isplitl [HO]
  · iexists (insert (csem kS, ()) W)
    iexact HO
  isplitl [Hz]; · iexact Hz
  iexact Hp

/-- The same for the wait that ends a transfer. -/
theorem wait_dma (c : Dev nD) (i : ℕ) (kS : Fin 24) (h : ∀ x ∈ raises.drop i, place kS < place x.1)
    {sp sp' : Space} {s : Shape} {e : EltTy} (src : Memref sig .tc sp' s e) (dst : Memref sig .tc sp s e) {sem : DmaSem sig}
    {hsrc : src.view.WordExact} {hdst : dst.view.WordExact}
    (hS : SemLoc.dma sem = csem kS) (hN : dst.view.dmaCredit = units kS) {P : sProp 𝕄} (hP : got m c kS = P)
    {α : Type} {Q : α → sProp 𝕄} {k : PUnit → Prog (TpuEff nD τ sig (Elt F) Λ₀ .tc) α} :
    iprop(records m K ∗ levAts L lv ∗ crd (F := F) c kS (units kS) ∗ at0 (F := F) c kS ∗ ow (F := F) c i)
      ⊢ iprop(((ow (F := F) c i ∗ done (F := F) c kS ∗ P) -∗ run c (k ⟨⟩) Q)
          -∗ run c (.op (.waitDma2 sem src dst hsrc hdst) k) Q) := by
  subst hP
  exact wait_step m K c i kS h (wpE_waitDma2_eq 𝒱₀ (c : Thread nD τ) none Set.univ) hS hN

/-- A load through a part of a buffer the device holds, at any share. -/
theorem ld_step (c : Dev nD) {sp : CoreSpace} {s : Shape} {e : EltTy} (M : Memref sig .tc sp s e) (N : Finset M.view.ty.Idx) (r : LoadRect s) {hl : M.view.LoadsAt r}
    (hN : M.view.setOn r.set ⊆ N) (q : PosShare TreeShare) (f : M.view.ty.Contents (Elt F))
    {α : Type} {Q : α → sProp 𝕄} {k : (r.shape.Idx → Elt F e) → Prog (TpuEff nD τ sig (Elt F) Λ₀ .tc) α} :
    (M.view.loc (c : Thread nD τ) ↦[N]{q} f : sProp 𝕄)
      ⊢ iprop(((M.view.loc (c : Thread nD τ) ↦[N]{q} f) -∗ run c (k (M.view.readAt (Elt F) r f)) Q) -∗ run c (.op (.load M r hl) k) Q) :=
  wp_load 𝒱₀ (c : Thread nD τ) none Set.univ hN

/-- A store into a part of a buffer the device holds outright. -/
theorem st_step (c : Dev nD) {sp : CoreSpace} {s : Shape} {e : EltTy} (M : Memref sig .tc sp s e) (N : Finset M.view.ty.Idx) (r : Rect s) (w : r.shape.Idx → Elt F e)
    {hx : (M.access r).Stores Finset.univ} {hm : (Finset.univ : Finset r.shape.Idx) = Finset.univ ∨ ∀ a, r.stride a = 1}
    (hN : (M.access r).setOn Finset.univ ⊆ N) (f : M.view.ty.Contents (Elt F))
    {α : Type} {Q : α → sProp 𝕄} {k : PUnit → Prog (TpuEff nD τ sig (Elt F) Λ₀ .tc) α} :
    (M.view.loc (c : Thread nD τ) ↦[N]{fullShare} f : sProp 𝕄)
      ⊢ iprop(((M.view.loc (c : Thread nD τ) ↦[N]{fullShare} (M.access r).write (Elt F) f w Finset.univ) -∗ run c (k ⟨⟩) Q)
          -∗ run c (.op (.store M r w Finset.univ hx hm) k) Q) :=
  wp_store 𝒱₀ (c : Thread nD τ) none Set.univ (m := M) (r := r) hN

end Cert.KernelIdeal.Cube
-- ==== Proof.KernelIdeal.Body1.lean ====
/- The body of the kernel up to the second exchange: the signals to the partners' barriers, the local
   copy, the first exchange of halves and the second exchange of quarters. One theorem for each printed
   part; each takes the memory and the ghost state that part touches and no more. -/
module

public import proofs.«01_k».proof.Proof.KernelIdeal.Steps
public import proofs.«01_k».proof.Proof.Gen.KernelIdeal.Skeleton

@[expose] public section

noncomputable section

namespace Cert.KernelIdeal.Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 24 → ℕ)

/-- A part of the body, at the kernel's buffers and semaphores. -/
abbrev onBufs {β : Type 1} (f : (a0 : Memref sig .tc .vmem S1x2048x2048 .f32) → a0.IsWhole → (a1 : Memref sig .tc .hbm S2048x2048 .f32) → a1.IsWhole →
    (a2 : Memref sig .tc .vmem S2048 .f32) → a2.IsWhole → (a3 : Memref sig .tc .vmem S2048x2048 .f32) → a3.IsWhole →
    (a4 : Memref sig .tc .vmem S256x2048 .bf16) → a4.IsWhole → (a5 : Memref sig .tc .vmem S128x2048 .bf16) → a5.IsWhole →
    (a6 : Memref sig .tc .vmem S128x2048 .bf16) → a6.IsWhole → (a7 : Memref sig .tc .vmem S128x2048 .bf16) → a7.IsWhole →
    (a8 : Memref sig .tc .vmem S64x2048 .bf16) → a8.IsWhole → (a9 : Memref sig .tc .vmem S64x2048 .f32) → a9.IsWhole →
    (a10 : Memref sig .tc .vmem S4x256x2048 .bf16) → a10.IsWhole → (a11 : Memref sig .tc .vmem S3x256x2048 .bf16) → a11.IsWhole →
    DmaSems sig S4 → DmaSems sig S4 → DmaSems sig S4 → DmaSems sig S4 → DmaSems sig S3 → DmaSems sig S3 → DmaSems sig S_ → β) : β :=
  f xM (Memref.isWhole_whole _) resM (Memref.isWhole_whole _) gM (Memref.isWhole_whole _) oM (Memref.isWhole_whole _)
    blkM (Memref.isWhole_whole _) a1sM (Memref.isWhole_whole _) a1rM (Memref.isWhole_whole _) accM (Memref.isWhole_whole _)
    a2rM (Memref.isWhole_whole _) rcM (Memref.isWhole_whole _) cwM (Memref.isWhole_whole _) ccwM (Memref.isWhole_whole _)
    cc0_scratch8 cc0_scratch9 cc0_scratch10 cc0_scratch11 cc0_scratch12 cc0_scratch13 cc0_scratch14

/-- What every step may use. -/
abbrev env : sProp 𝕄 := iprop(records m K ∗ levAts L lv)
/-- What a device needs to send and to wait for the end of its own transfer. -/
abbrev snd (c : Dev nD) (kS kR : Fin 24) (p : Fin 4) : sProp 𝕄 :=
  iprop(tok (F := F) c kS 0 ∗ tok (F := F) (peer p c) kR 0 ∗ at0 (F := F) c kS)
/-- What a device needs to wait at a semaphore its partners raise. -/
abbrev rcv (c : Dev nD) (k : Fin 24) : sProp 𝕄 := iprop(crd (F := F) c k (units k) ∗ at0 (F := F) c k)

theorem ld_sub {sp : Space} {s : Shape} {e : EltTy} (M : Memref sig .tc sp s e) (S : Finset s.Idx) : M.view.setOn S ⊆ M.view.set :=
  View.setOn_subset_set _ S
theorem st_sub {sp : Space} {s : Shape} {e : EltTy} (M : Memref sig .tc sp s e) (r : Rect s) (S : Finset r.shape.Idx) :
    (M.view.slice r).setOn S ⊆ M.view.set :=
  (View.setOn_subset_set _ S).trans (View.set_slice_subset _ r)

theorem got_of_ne (c : Dev nD) (k : Fin 24) (hk : k ≠ 0) : got m c k = pay m c k 0 := if_neg hk

theorem run_ret (c : Dev nD) {α : Type} (a : α) (Q : α → sProp 𝕄) : Q a ⊢ run c (.ret a) Q := by
  unfold run
  rw [wp_ret]
  exact fupd_intro

theorem pay_bar0 (c : Dev nD) : pay m (peer 0 c) 0 0 = iprop(vany (F := F) c a1rM ∗ vany (F := F) c (blkH (zA c))) := by
  show iprop(vany (F := F) (zA (zA c)) a1rM ∗ vany (F := F) (zA (zA c)) (blkH (zA c))) = _
  rw [zA_zA]
theorem pay_bar1 (c : Dev nD) : pay m (peer 1 c) 0 1 = iprop(vany (F := F) c a2rM ∗ vany (F := F) c (blkQ (zB c))) := by
  show iprop(vany (F := F) (zB (zB c)) a2rM ∗ vany (F := F) (zB (zB c)) (blkQ (zB c))) = _
  rw [zB_zB]
theorem pay_bar2 (c : Dev nD) : pay m (peer 2 c) 0 3 = vany (F := F) c ccwM := by
  show vany (F := F) (ccw (cw c)) ccwM = _
  rw [ccw_cw]
theorem pay_bar3 (c : Dev nD) : pay m (peer 3 c) 0 2 = vany (F := F) c cwM := by
  show vany (F := F) (cw (ccw c)) cwM = _
  rw [cw_ccw]

/-- The four signals: each partner gets the memory it will write on this device. -/
theorem part2_run (c : Dev nD) (v2 v5 v8 v25 v28 v30 : BitVec 32) (v31 : BitVec 1) (w w' : BitVec 32)
    {Q : (Σ' (v32 : BitVec 32) (v35 : BitVec 32), Sems sig S_) → sProp 𝕄} :
    iprop(env m K ∗ ow (F := F) c 0 ∗ tok (F := F) (zA c) 0 0 ∗ tok (F := F) (zB c) 0 1 ∗ tok (F := F) (cw c) 0 3 ∗ tok (F := F) (ccw c) 0 2
        ∗ vany (F := F) c a1rM ∗ vany (F := F) c (blkH (zA c)) ∗ vany (F := F) c a2rM ∗ vany (F := F) c (blkQ (zB c))
        ∗ vany (F := F) c ccwM ∗ vany (F := F) c cwM)
      ⊢ iprop((∀ a b, ow (F := F) c 4 -∗ Q ⟨a, b, SemArray.scalar (sig.barrier 0 rfl)⟩)
          -∗ run c (onBufs (k0_part2 (F := F)) c v2 v5 v8 v25 v28 v30 v31 w w') Q) := by
  rw [k0_part2_eq_skeleton]; unfold onBufs k0_part2_skel
  simp only [semSignalWord, semWaitWord, Prog.lift, Prog.bind_op, Prog.bind_ret, Prog.pure_eq_ret]
  iintro ⟨⟨#HR, #Hlev⟩, HO, Ht0, Ht1, Ht2, Ht3, Ha, Hb, Hc, Hd, He, Hf⟩ Hk
  iapply (signal_step m K c _ 0 0 0 (dev1_eq c) rfl rfl) $$ [HO Ht0 Ha Hb]
  · isplitr; · iexact HR
    isplitl [HO]; · iexact HO
    isplitl [Ht0]; · iexact Ht0
    rw [pay_bar0]; isplitl [Ha] <;> iassumption
  iintro HO
  iapply (signal_step m K c _ 1 1 1 (dev2_eq c) rfl rfl) $$ [HO Ht1 Hc Hd]
  · isplitr; · iexact HR
    isplitl [HO]; · iexact HO
    isplitl [Ht1]; · iexact Ht1
    rw [pay_bar1]; isplitl [Hc] <;> iassumption
  iintro HO
  iapply (signal_step m K c _ 2 2 3 (dev3_eq c) rfl rfl) $$ [HO Ht2 He]
  · isplitr; · iexact HR
    isplitl [HO]; · iexact HO
    isplitl [Ht2]; · iexact Ht2
    rw [pay_bar2]; iexact He
  iintro HO
  iapply (signal_step m K c _ 3 3 2 (dev4_eq c) rfl rfl) $$ [HO Ht3 Hf]
  · isplitr; · iexact HR
    isplitl [HO]; · iexact HO
    isplitl [Ht3]; · iexact Ht3
    rw [pay_bar3]; iexact Hf
  iintro HO
  iapply run_ret
  iapply Hk
  iexact HO

/-- Memory that reads as `G` does through a view holds `G` there. -/
theorem landed (c : Dev nD) {sp : Space} {s : Shape} {e : EltTy} (M : Memref sig .tc sp s e) (q : PosShare TreeShare)
    (f G : M.view.ty.Contents (Elt F)) (w : s.Idx → Elt F e) (h : w = M.view.read (Elt F) G) :
    (vpts c M q (M.view.write (Elt F) f w Finset.univ) : sProp 𝕄) ⊢ vpts c M q G :=
  Entails.of_eq (pointsTo_congr (agree_of_read M.view f G w h))

theorem hz2 : (![0, 0] : Fin 2 → ℕ) = fun _ => 0 := by funext a; fin_cases a <;> rfl
theorem hz1 : (![0] : Fin 1 → ℕ) = fun _ => 0 := by funext a; fin_cases a; rfl

abbrev r128 : Rect S128x2048 := Rect.unit (s := S128x2048) ![0, 0] S128x2048.size inb_S128x2048_S128x2048_0_0
abbrev r64 : Rect S64x2048 := Rect.unit (s := S64x2048) ![0, 0] S64x2048.size inb_S64x2048_S64x2048_0_0

omit [FloatOps F] in
theorem fill_a1s (f w : a1sM.view.ty.Contents (Elt F)) : (a1sM.access r128).write (Elt F) f w Finset.univ = w :=
  Memref.write_access_unit_zero_univ (Elt F) cc0_scratch1 hz2 _ f w
omit [FloatOps F] in
theorem fill_acc (f w : accM.view.ty.Contents (Elt F)) : (accM.access r128).write (Elt F) f w Finset.univ = w :=
  Memref.write_access_unit_zero_univ (Elt F) cc0_scratch3 hz2 _ f w
omit [FloatOps F] in
theorem all_a1r (f : a1rM.view.ty.Contents (Elt F)) : a1rM.view.readAt (Elt F) r128.toLoadRect f = f :=
  Memref.readAt_unit_zero (Elt F) cc0_scratch2 hz2 _ f
omit [FloatOps F] in
theorem all_a2r (f : a2rM.view.ty.Contents (Elt F)) : a2rM.view.readAt (Elt F) r64.toLoadRect f = f :=
  Memref.readAt_unit_zero (Elt F) cc0_scratch4 hz2 _ f
omit [FloatOps F] in
theorem all_rc (f : rcM.view.ty.Contents (Elt F)) : rcM.view.readAt (Elt F) r64.toLoadRect f = f :=
  Memref.readAt_unit_zero (Elt F) cc0_scratch5 hz2 _ f
omit [FloatOps F] in
theorem all_g (f : gM.view.ty.Contents (Elt F)) : gM.view.readAt (Elt F) (Rect.unit (s := S2048) ![0] S2048.size inb_S2048_S2048_0).toLoadRect f = f :=
  Memref.readAt_unit_zero (Elt F) cc0_stg1_0 hz1 _ f

set_option maxHeartbeats 400000 in
/-- The barrier wait, the local copy, and the first exchange's half sent and taken back. -/
theorem part3_run (c : Dev nD) (v2 v5 v8 v9 v14 : BitVec 32) {Q : PUnit → sProp 𝕄} :
    iprop(env m K ∗ ow (F := F) c 4 ∗ rcv (F := F) c 0 ∗ vpts c (resW c) fullShare (m ((c : Thread nD τ).loc main_arg1)) ∗ vany (F := F) c rcM
        ∗ tok (F := F) c 1 0 ∗ vpts c xM fullShare (xs m c) ∗ vany (F := F) c a1sM ∗ snd (F := F) c 2 13 0)
      ⊢ iprop(((ow (F := F) c 5 ∗ done (F := F) c 0 ∗ vany (F := F) (zA c) (blkH c) ∗ (vany (F := F) (zB c) a2rM ∗ vany (F := F) (zB c) (blkQ c))
            ∗ vany (F := F) (cw c) cwM ∗ vany (F := F) (ccw c) ccwM
            ∗ crd (F := F) c 1 (units 1) ∗ vpts c xM fullShare (xs m c) ∗ vpts c a1sM fullShare (a1s m c) ∗ done (F := F) c 2) -∗ Q ⟨⟩)
          -∗ run c (onBufs (k0_part3 (F := F)) c v2 v5 v8 v9 v14 (SemArray.scalar (sig.barrier 0 rfl))) Q) := by
  rw [k0_part3_eq_skeleton]; unfold onBufs k0_part3_skel
  simp only [semSignalWord, semWaitWord, Prog.lift, Prog.bind_op, Prog.bind_ret, Prog.pure_eq_ret]
  iintro ⟨⟨#HR, #Hlev⟩, HO, ⟨Hc0, Hat0⟩, Hres, Hrc, Ht1, Hx, Ha, ⟨Ht, Htp, Hat2⟩⟩ Hk
  iapply (wait_step m K c 4 0 (by decide) (wpE_semWait_eq 𝒱₀ (c : Thread nD τ) none Set.univ) rfl rfl) $$ [HO Hc0 Hat0]
  · isplitr; · iexact HR
    isplitr; · iexact Hlev
    isplitl [Hc0]; · iexact Hc0
    isplitl [Hat0]; · iexact Hat0
    iexact HO
  iintro ⟨HO, Hd0, Hgot⟩
  ihave Hg := (Entails.of_eq (show got m c 0 = iprop((vany (F := F) (zA c) a1rM ∗ vany (F := F) (zA c) (blkH c)) ∗ (vany (F := F) (zB c) a2rM ∗ vany (F := F) (zB c) (blkQ c))
      ∗ vany (F := F) (cw c) cwM ∗ vany (F := F) (ccw c) ccwM) from if_pos rfl)) $$ Hgot
  icases Hg with ⟨⟨HzAr, HzAb⟩, HzB, Hcw, Hccw⟩
  unfold vany
  icases Hrc with ⟨%frc, Hrc⟩
  iapply (copy_step m K c 1 (src := resW c) (dst := rcM) rfl rfl fullShare (m ((c : Thread nD τ).loc main_arg1)) frc
      (sep_mono_left (landed c rcM fullShare frc (rc m c) _ rfl))) $$ [Hres Hrc Ht1]
  · isplitr; · iexact HR
    isplitl [Hres]; · iexact Hres
    isplitl [Hrc]; · iexact Hrc
    iexact Ht1
  iintro Hc1
  iapply (ld_step c xM xM.view.set (Rect.unit (s := S1x2048x2048) (k0_off2 c) S1x128x2048.size (k0_off2_inb c)).toLoadRect (ld_sub _ _) fullShare (xs m c)) $$ Hx; iintro Hx
  icases Ha with ⟨%fa, Ha⟩
  iapply (ld_step c a1sM a1sM.view.set r128.toLoadRect (ld_sub _ _) fullShare fa) $$ Ha; iintro Ha
  iapply (st_step c a1sM a1sM.view.set r128 (a1s m c) (st_sub _ _ _) fa) $$ Ha; iintro Ha
  rw [fill_a1s fa (a1s m c)]
  icases HzAr with ⟨%fr, HzAr⟩
  iapply (send_step m K c _ 4 2 13 0 (dev5_eq c) rfl rfl (src := a1sM) (dst := a1rM) rfl rfl rfl fullShare (a1s m c) fr (BI.Entails.refl _)
      (by
        refine (landed (zA c) a1rM fullShare fr (a1s m (zA (zA c))) _ ?_)
        rw [zA_zA]; rfl)) $$ [Ha HzAr HO Ht Htp]
  · isplitr; · iexact HR
    isplitl [Ha]; · iexact Ha
    isplitl [HzAr]; · iexact HzAr
    isplitl [HO]; · iexact HO
    isplitl [Ht]; · iexact Ht
    iexact Htp
  iintro ⟨Hc2, HO⟩
  iapply (wait_dma m K c 5 2 (by decide) a1rM a1sM rfl rfl (P := vpts c a1sM fullShare (a1s m c)) rfl) $$ [HO Hc2 Hat2]
  · isplitr; · iexact HR
    isplitr; · iexact Hlev
    isplitl [Hc2]; · iexact Hc2
    isplitl [Hat2]; · iexact Hat2
    iexact HO
  iintro ⟨HO, Hd2, Hg2⟩
  iapply run_ret
  iapply Hk
  isplitl [HO]; · iexact HO
  isplitl [Hd0]; · iexact Hd0
  isplitl [HzAb]; · iexact HzAb
  isplitl [HzB]; · iexact HzB
  isplitl [Hcw]; · iexact Hcw
  isplitl [Hccw]; · iexact Hccw
  isplitl [Hc1]; · iexact Hc1
  isplitl [Hx]; · iexact Hx
  isplitl [Hg2]; · iexact Hg2
  iexact Hd2

theorem accOut_sub (c : Dev nD) : (accOut c).view.set ⊆ accM.view.set := View.set_slice_subset _ _

theorem part4_pay (c : Dev nD) (f : a2rM.view.ty.Contents (Elt F)) :
    (vpts (zB c) a2rM fullShare (a2rM.view.write (Elt F) f ((accOut c).view.read (Elt F) (acc m c)) Finset.univ) : sProp 𝕄) ⊢ pay m (peer 1 c) 14 0 := by
  refine (landed (zB c) a2rM fullShare f (a2r m (zB c)) _ ?_)
  unfold a2r
  rw [zB_zB]; rfl

set_option maxHeartbeats 400000 in
/-- The first exchange's half taken in, the accumulator formed, and its quarter sent and taken back. -/
theorem part4_run (c : Dev nD) (v2 v5 v8 v9 v11 v14 : BitVec 32) {Q : (Σ' (v108 : BitVec 32), BitVec 32) → sProp 𝕄} :
    iprop(env m K ∗ ow (F := F) c 5 ∗ rcv (F := F) c 13 ∗ vpts c xM fullShare (xs m c) ∗ vany (F := F) c accM
        ∗ vany (F := F) (zB c) a2rM ∗ snd (F := F) c 3 14 1)
      ⊢ iprop((∀ r, (ow (F := F) c 6 ∗ done (F := F) c 13 ∗ done (F := F) c 3 ∗ vpts c xM fullShare (xs m c)
            ∗ vpts c a1rM fullShare (a1s m (zA c)) ∗ vpts c accM fullShare (acc m c)) -∗ Q r)
          -∗ run c (onBufs (k0_part4 (F := F)) c v2 v5 v8 v9 v11 v14) Q) := by
  rw [k0_part4_eq_skeleton]; unfold onBufs k0_part4_skel
  simp only [Prog.lift, Prog.bind_op, Prog.bind_ret, Prog.pure_eq_ret]
  unfold vany
  iintro ⟨⟨#HR, #Hlev⟩, HO, ⟨Hc, Hat⟩, Hx, ⟨%fa, Ha⟩, ⟨%fr, Hr⟩, ⟨Ht, Htp, Hat3⟩⟩ Hk
  iapply (wait_dma m K c 5 13 (by decide) a1sM a1rM rfl rfl (P := vpts c a1rM fullShare (a1s m (zA c))) rfl) $$ [HO Hc Hat]
  · isplitr; · iexact HR
    isplitr; · iexact Hlev
    isplitl [Hc]; · iexact Hc
    isplitl [Hat]; · iexact Hat
    iexact HO
  iintro ⟨HO, Hd13, Hg⟩
  iapply (ld_step c a1rM a1rM.view.set r128.toLoadRect (ld_sub _ _) fullShare (a1s m (zA c))) $$ Hg; iintro Hg
  rw [all_a1r]
  iapply (ld_step c xM xM.view.set (Rect.unit (s := S1x2048x2048) (k0_off3 c) S1x128x2048.size (k0_off3_inb c)).toLoadRect (ld_sub _ _) fullShare (xs m c)) $$ Hx; iintro Hx
  iapply (ld_step c accM accM.view.set r128.toLoadRect (ld_sub _ _) fullShare fa) $$ Ha; iintro Ha
  iapply (st_step c accM accM.view.set r128 (acc m c) (st_sub _ _ _) fa) $$ Ha; iintro Ha
  rw [fill_acc fa (acc m c)]
  ihave Hsp := (pointsTo_split_subset (accOut_sub c)).1 $$ Ha
  icases Hsp with ⟨Ha, Hrest⟩
  iapply (send_step m K c _ 5 3 14 1 (dev6_eq c) rfl rfl (src := accOut c) (dst := a2rM) rfl rfl rfl fullShare (acc m c) fr (BI.Entails.refl _)
      (part4_pay m c fr)) $$ [Ha Hr HO Ht Htp]
  · isplitr; · iexact HR
    isplitl [Ha]; · iexact Ha
    isplitl [Hr]; · iexact Hr
    isplitl [HO]; · iexact HO
    isplitl [Ht]; · iexact Ht
    iexact Htp
  iintro ⟨Hc2, HO⟩
  iapply (wait_dma m K c 6 3 (by decide) a2rM (accOut c) rfl rfl (P := vpts c (accOut c) fullShare (acc m c)) rfl) $$ [HO Hc2 Hat3]
  · isplitr; · iexact HR
    isplitr; · iexact Hlev
    isplitl [Hc2]; · iexact Hc2
    isplitl [Hat3]; · iexact Hat3
    iexact HO
  iintro ⟨HO, Hd3, Hg3⟩
  iapply run_ret
  iapply Hk
  isplitl [HO]; · iexact HO
  isplitl [Hd13]; · iexact Hd13
  isplitl [Hd3]; · iexact Hd3
  isplitl [Hx]; · iexact Hx
  isplitl [Hg]; · iexact Hg
  iapply (pointsTo_split_subset (accOut_sub c)).2
  isplitl [Hg3]; · iexact Hg3
  iexact Hrest

abbrev rOwn (c : Dev nD) : Rect S256x2048 := Rect.unit (s := S256x2048) (k0_off6 c) S64x2048.size (k0_off6_inb c)

/-- The rectangle a device's quarter is stored through is the one it is sent through. -/
theorem own_rect (c : Dev nD) : (blkM.access (rOwn c)).set = (blkQ c).view.set := by
  rw [set_blkQ]
  show ((View.whole cc0_scratch0).slice _).set = _
  rw [View.set_slice_whole]
  ext i
  rw [blkRows, Finset.mem_filter]
  exact (mem_unit2 (off6_eq c) _ i).trans ⟨fun h => ⟨Finset.mem_univ _, h⟩, fun h => h.2⟩

theorem read_own (c : Dev nD) :
    (blkM.access (rOwn c)).read (Elt F) (nb m (blk c)) = nrb m c := by
  have h : ∀ (off : Fin 2 → ℕ) (inb : ∀ a, off a + S64x2048.size a ≤ S256x2048.size a), off = k0_off7 c →
      (blkM.access (Rect.unit (s := S256x2048) off S64x2048.size inb)).read (Elt F) (nb m (blk c)) = nrb m c := by
    rintro _ _ rfl; exact read_blkQ m c
  exact h _ _ ((off6_eq c).trans (off7_eq c).symm)

theorem stored_own (c : Dev nD) (f : blkM.view.ty.Contents (Elt F)) :
    (blkM.view.loc (c : Thread nD τ) ↦[(blkQ c).view.set]{fullShare}
        (blkM.access (rOwn c)).write (Elt F) f (nrb m c) Finset.univ : sProp 𝕄)
      ⊢ vpts c (blkQ c) fullShare (nb m (blk c)) :=
  Entails.of_eq (pointsTo_congr (by
    rw [← own_rect]
    exact agree_of_read (blkM.access (rOwn c)) f (nb m (blk c)) (nrb m c) (read_own m c).symm))

set_option maxHeartbeats 400000 in
/-- The second exchange's quarter and the residual taken in, and the device's quarter normalised. -/
theorem part5_run (c : Dev nD) (v5 v9 v11 v108 v124 : BitVec 32) {Q : (Σ' (v155 : FVec F S64x2048 .f32), BitVec 32) → sProp 𝕄} :
    iprop(env m K ∗ ow (F := F) c 6 ∗ rcv (F := F) c 14 ∗ rcv (F := F) c 1 ∗ vpts c accM fullShare (acc m c) ∗ vpts c gM fullShare (gs m c)
        ∗ vany (F := F) c (blkQ c))
      ⊢ iprop((∀ b, (ow (F := F) c 6 ∗ done (F := F) c 14 ∗ done (F := F) c 1 ∗ vpts c accM fullShare (acc m c) ∗ vpts c gM fullShare (gs m c)
            ∗ vpts c a2rM fullShare (a2r m c) ∗ vpts c rcM fullShare (rc m c) ∗ vpts c (resW c) fullShare (m ((c : Thread nD τ).loc main_arg1))
            ∗ vpts c (blkQ c) fullShare (nb m (blk c))) -∗ Q ⟨nrm m c, b⟩)
          -∗ run c (onBufs (k0_part5 (F := F)) c v5 v9 v11 v108 v124) Q) := by
  rw [k0_part5_eq_skeleton]; unfold onBufs k0_part5_skel
  simp only [Prog.lift, Prog.bind_op, Prog.bind_ret, Prog.pure_eq_ret]
  unfold vany
  iintro ⟨⟨#HR, #Hlev⟩, HO, ⟨Hc, Hat⟩, ⟨Hc1, Hat1⟩, Ha, Hg, ⟨%fb, Hb⟩⟩ Hk
  iapply (wait_dma m K c 6 14 (by decide) (accOut c) a2rM rfl rfl (P := vpts c a2rM fullShare (a2r m c)) rfl) $$ [HO Hc Hat]
  · isplitr; · iexact HR
    isplitr; · iexact Hlev
    isplitl [Hc]; · iexact Hc
    isplitl [Hat]; · iexact Hat
    iexact HO
  iintro ⟨HO, Hd14, Hr⟩
  iapply (wait_dma m K c 6 1 (by decide) (resW c) rcM rfl rfl
      (P := iprop(vpts c rcM fullShare (rc m c) ∗ vpts c (resW c) fullShare (m ((c : Thread nD τ).loc main_arg1)))) rfl) $$ [HO Hc1 Hat1]
  · isplitr; · iexact HR
    isplitr; · iexact Hlev
    isplitl [Hc1]; · iexact Hc1
    isplitl [Hat1]; · iexact Hat1
    iexact HO
  iintro ⟨HO, Hd1, ⟨Hrc, Hres⟩⟩
  iapply (ld_step c a2rM a2rM.view.set r64.toLoadRect (ld_sub _ _) fullShare (a2r m c)) $$ Hr; iintro Hr
  rw [all_a2r]
  iapply (ld_step c accM accM.view.set (Rect.unit (s := S128x2048) (k0_off5 c) S64x2048.size (k0_off5_inb c)).toLoadRect (ld_sub _ _) fullShare (acc m c)) $$ Ha; iintro Ha
  iapply (ld_step c rcM rcM.view.set r64.toLoadRect (ld_sub _ _) fullShare (rc m c)) $$ Hrc; iintro Hrc
  rw [all_rc]
  iapply (ld_step c gM gM.view.set (Rect.unit (s := S2048) ![0] S2048.size inb_S2048_S2048_0).toLoadRect (ld_sub _ _) fullShare (gs m c)) $$ Hg; iintro Hg
  rw [all_g]
  iapply (ld_step c blkM (blkQ c).view.set (rOwn c).toLoadRect
      (by rw [← own_rect, View.set_slice]; exact subset_rfl) fullShare fb) $$ Hb; iintro Hb
  iapply (st_step c blkM (blkQ c).view.set (rOwn c) (nrb m c)
      (by rw [← own_rect]; exact subset_rfl) fb) $$ Hb; iintro Hb
  ihave Hb' := (stored_own m c fb) $$ Hb
  rw [show k0_pay4 (a2r m c) (accM.view.readAt (Elt F) (Rect.unit (s := S128x2048) (k0_off5 c) S64x2048.size (k0_off5_inb c)).toLoadRect (acc m c)) (rc m c) (gs m c) = nrm m c from rfl]
  iapply run_ret
  iapply Hk
  isplitl [HO]; · iexact HO
  isplitl [Hd14]; · iexact Hd14
  isplitl [Hd1]; · iexact Hd1
  isplitl [Ha]; · iexact Ha
  isplitl [Hg]; · iexact Hg
  isplitl [Hr]; · iexact Hr
  isplitl [Hrc]; · iexact Hrc
  isplitl [Hres]; · iexact Hres
  iexact Hb'

end Cert.KernelIdeal.Cube
-- ==== Proof.KernelIdeal.Out.lean ====
/- Filling the result, rows at a time: which rows already hold what they are to hold, and what a store
   adds to them. And the parts of the normalised block's buffer, taken apart and put together. -/
module

public import proofs.«01_k».proof.Proof.KernelIdeal.Body1

@[expose] public section

noncomputable section

namespace Cert.KernelIdeal.Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ) (K : Dev nD × Fin 24 → ℕ)

/-- Device `c` holds the result's buffer, and the listed runs of rows (first row, how many) are final. -/
def outAt (c : Dev nD) (l : List (ℕ × ℕ)) : sProp 𝕄 :=
  iprop(∃ f : oM.view.ty.Contents (Elt F),
    ⌜∀ p ∈ l, ∀ i : S2048x2048.Idx, p.1 ≤ (i 0 : Fin 2048).val → (i 0 : Fin 2048).val < p.1 + p.2 → f i = outG m c i⌝ ∗ vpts c oM fullShare f)

/-- A store of final rows makes those rows final (the kernel reads them before, and drops what it read). -/
theorem out_step (c : Dev nD) (l : List (ℕ × ℕ)) (o n : ℕ) {off : Fin 2 → ℕ} (h : off = ![o, 0])
    (inb : ∀ a, off a + (⟨2, ![n, 2048]⟩ : Shape).size a ≤ S2048x2048.size a) (w : (⟨2, ![n, 2048]⟩ : Shape).Idx → Elt F .f32)
    {hl : oM.view.LoadsAt (Rect.unit (s := S2048x2048) off (⟨2, ![n, 2048]⟩ : Shape).size inb).toLoadRect}
    {hx : (oM.access (Rect.unit (s := S2048x2048) off (⟨2, ![n, 2048]⟩ : Shape).size inb)).Stores Finset.univ}
    {hm : (Finset.univ : Finset (Rect.unit (s := S2048x2048) off (⟨2, ![n, 2048]⟩ : Shape).size inb).shape.Idx) = Finset.univ
      ∨ ∀ a, (Rect.unit (s := S2048x2048) off (⟨2, ![n, 2048]⟩ : Shape).size inb).stride a = 1}
    (hw : ∀ i, outG m c ((Rect.unit (s := S2048x2048) off (⟨2, ![n, 2048]⟩ : Shape).size inb).idx i) = w i)
    {α : Type} {Q : α → sProp 𝕄} {k : PUnit → Prog (TpuEff nD τ sig (Elt F) Λ₀ .tc) α} :
    outAt m c l ⊢ iprop((outAt m c ((o, n) :: l) -∗ run c (k ⟨⟩) Q)
        -∗ run c (.op (.load oM (Rect.unit (s := S2048x2048) off (⟨2, ![n, 2048]⟩ : Shape).size inb).toLoadRect hl) fun _ =>
            .op (.store oM (Rect.unit (s := S2048x2048) off (⟨2, ![n, 2048]⟩ : Shape).size inb) w Finset.univ hx hm) k) Q) := by
  have hset : ∀ i : S2048x2048.Idx, i ∈ (oM.access (Rect.unit (s := S2048x2048) off (⟨2, ![n, 2048]⟩ : Shape).size inb)).set
      ↔ o ≤ (i 0 : Fin 2048).val ∧ (i 0 : Fin 2048).val < o + n := fun i => by
    rw [show (oM.access (Rect.unit (s := S2048x2048) off (⟨2, ![n, 2048]⟩ : Shape).size inb)).set = _ from View.set_slice_whole cc0_stg2_0 _]
    exact mem_unit2 h inb i
  unfold outAt
  iintro ⟨%f, %hf, Ho⟩ Hk
  iapply (ld_step c oM oM.view.set (Rect.unit (s := S2048x2048) off (⟨2, ![n, 2048]⟩ : Shape).size inb).toLoadRect (ld_sub _ _) fullShare f) $$ Ho; iintro Ho
  iapply (st_step c oM oM.view.set (Rect.unit (s := S2048x2048) off (⟨2, ![n, 2048]⟩ : Shape).size inb) w (st_sub _ _ _) f) $$ Ho; iintro Ho
  iapply Hk
  iexists (oM.access (Rect.unit (s := S2048x2048) off (⟨2, ![n, 2048]⟩ : Shape).size inb)).write (Elt F) f w Finset.univ
  isplitr
  · ipureintro
    have hin := agree_of_read (oM.access (Rect.unit (s := S2048x2048) off (⟨2, ![n, 2048]⟩ : Shape).size inb)) f (outG m c) w (funext fun x => (hw x).symm)
    intro p hp i h1 h2
    by_cases hi : i ∈ (oM.access (Rect.unit (s := S2048x2048) off (⟨2, ![n, 2048]⟩ : Shape).size inb)).set
    · exact hin i hi
    · rcases List.mem_cons.mp hp with rfl | hp
      · exact absurd ((hset i).mpr ⟨h1, h2⟩) hi
      · rw [View.write_of_not_mem _ _ _ (by rwa [View.setOn_univ])]
        exact hf p hp i h1 h2
  · iexact Ho

/-- Rows of the device's own block that another device of the group made. -/
theorem out_block (c : Dev nD) (o o' n : ℕ) {off offR : Fin 2 → ℕ} (h : off = ![o', 0]) (ho' : o' = 256 * blk c + o)
    (inb : ∀ a, off a + (⟨2, ![n, 2048]⟩ : Shape).size a ≤ S2048x2048.size a) (hR : offR = ![o, 0])
    (inbR : ∀ a, offR a + (⟨2, ![n, 2048]⟩ : Shape).size a ≤ S256x2048.size a) (hn : o + n ≤ 256)
    (hne : ∀ x < n, (o + x) / 64 ≠ 2 * hf c + qt c) (i : (⟨2, ![n, 2048]⟩ : Shape).Idx) :
    outG m c ((Rect.unit (s := S2048x2048) off (⟨2, ![n, 2048]⟩ : Shape).size inb).idx i)
      = (extf .f32 (blkM.view.readAt (Elt F) (Rect.unit (s := S256x2048) offR (⟨2, ![n, 2048]⟩ : Shape).size inbR).toLoadRect (nb m (blk c))) bitsLt_bf16_f32 : FVec F ⟨2, ![n, 2048]⟩ .f32) i := by
  have hi : (i 0 : Fin n).val < n := (i 0 : Fin n).isLt
  have hq := hne _ hi
  subst ho'
  rw [out_other m c (blk c) o n h inb i (blk_lt c) (by omega) (by omega)]
  show FloatOps.extf _ _ (nb m (blk c) _) = FloatOps.extf _ _ (nb m (blk c) ((Rect.unit (s := S256x2048) offR (⟨2, ![n, 2048]⟩ : Shape).size inbR).idx i))
  rw [emb_unit2 hR inbR i (by omega)]
  rfl

/-- The rows of another block. -/
theorem out_hop (c : Dev nD) (b : ℕ) {off : Fin 2 → ℕ} (h : off = ![256 * b, 0]) (inb : ∀ a, off a + S256x2048.size a ≤ S2048x2048.size a)
    (hb : b < 8) (hne : b ≠ blk c) (i : S256x2048.Idx) :
    outG m c ((Rect.unit (s := S2048x2048) off S256x2048.size inb).idx i) = (extf .f32 (nb m b) bitsLt_bf16_f32 : FVec F S256x2048 .f32) i := by
  have hi : (i 0 : Fin 256).val < 256 := (i 0 : Fin 256).isLt
  have := hf_lt c; have := qt_lt c
  rw [out_other m c b 0 256 h inb i hb (by omega) (by omega)]
  refine congrArg (nbx m b) (Eq.trans ?_ (Idealize.ShloMosaic.ValueIdx.eq_ix2 i).symm)
  exact congrArg (fun a => ix2 a (i 1 : Fin 2048)) (Fin.ext (Nat.zero_add _))

/-! ## The normalised block's buffer -/

theorem mem_blkRows (lo n : ℕ) (i : S256x2048.Idx) :
    i ∈ blkRows lo n ↔ lo ≤ (i 0 : Fin 256).val ∧ (i 0 : Fin 256).val < lo + n := by
  rw [blkRows, Finset.mem_filter]
  exact ⟨fun h => h.2, fun h => ⟨Finset.mem_univ _, h⟩⟩

/-- Where the two quarters of a half lie. -/
theorem quarters : ∀ c : Dev nD, (own c = 128 * hf c ∧ own (zB c) = 128 * hf c + 64) ∨ (own c = 128 * hf c + 64 ∧ own (zB c) = 128 * hf c) := by
  decide +kernel
/-- Where the two halves of the block lie. -/
theorem halves : ∀ c : Dev nD, (128 * hf c = 0 ∧ 128 * hf (zA c) = 128) ∨ (128 * hf c = 128 ∧ 128 * hf (zA c) = 0) := by
  decide +kernel

theorem set_half (c : Dev nD) : (blkH c).view.set = (blkQ c).view.set ∪ (blkQ (zB c)).view.set := by
  rw [set_blkH, set_blkQ, set_blkQ]
  have hq := quarters c
  ext i
  rw [Finset.mem_union, mem_blkRows, mem_blkRows, mem_blkRows]
  omega

theorem disj_half (c : Dev nD) : Disjoint (blkQ c).view.set (blkQ (zB c)).view.set := by
  rw [set_blkQ, set_blkQ, Finset.disjoint_left]
  have hq := quarters c
  intro i h1 h2
  rw [mem_blkRows] at h1 h2
  omega

theorem set_full (c : Dev nD) : blkM.view.set = (blkH c).view.set ∪ (blkH (zA c)).view.set := by
  rw [set_blkH, set_blkH, show blkM.view.set = Finset.univ from View.set_whole cc0_scratch0]
  have hq := halves c
  ext i
  have hi : (i 0 : Fin 256).val < 256 := (i 0 : Fin 256).isLt
  rw [Finset.mem_union, mem_blkRows, mem_blkRows]
  exact ⟨fun _ => by omega, fun _ => Finset.mem_univ _⟩

theorem disj_full (c : Dev nD) : Disjoint (blkH c).view.set (blkH (zA c)).view.set := by
  rw [set_blkH, set_blkH, Finset.disjoint_left]
  have hq := halves c
  intro i h1 h2
  rw [mem_blkRows] at h1 h2
  omega

/-- Two quarters are a half. -/
theorem half_eq (c : Dev nD) (q : PosShare TreeShare) (f : blkM.view.ty.Contents (Elt F)) :
    (vpts c (blkH c) q f : sProp 𝕄) ⊣⊢ iprop(vpts c (blkQ c) q f ∗ vpts c (blkQ (zB c)) q f) := by
  show (blkM.view.loc (c : Thread nD τ) ↦[(blkH c).view.set]{q} f : sProp 𝕄) ⊣⊢ _
  rw [set_half]
  exact pointsTo_union (disj_half c)

/-- Two halves are the buffer. -/
theorem full_eq (c : Dev nD) (q : PosShare TreeShare) (f : blkM.view.ty.Contents (Elt F)) :
    (vpts c blkM q f : sProp 𝕄) ⊣⊢ iprop(vpts c (blkH c) q f ∗ vpts c (blkH (zA c)) q f) := by
  show (blkM.view.loc (c : Thread nD τ) ↦[blkM.view.set]{q} f : sProp 𝕄) ⊣⊢ _
  rw [set_full c]
  exact pointsTo_union (disj_full c)

/-- A view's memory at two shares, or in two hands. -/
theorem share_eq (c : Dev nD) {sp : Space} {s : Shape} {e : EltTy} (M : Memref sig .tc sp s e) (q : PosShare TreeShare) (f : M.view.ty.Contents (Elt F)) :
    (vpts c M q f : sProp 𝕄) ⊣⊢ iprop(vpts c M q.left f ∗ vpts c M q.right f) :=
  pointsTo_share (PosShare.mem_left_op_right q)

end Cert.KernelIdeal.Cube
-- ==== Proof.KernelIdeal.Body2.lean ====
/- The body of the kernel from the spreading of the normalised quarters over the group to the first hop
   around the ring. One theorem for each printed part. -/
module

public import proofs.«01_k».proof.Proof.KernelIdeal.Out

@[expose] public section

noncomputable section

namespace Cert.KernelIdeal.Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 24 → ℕ)

/-- Rows read out of the normalised block's buffer lie in a part of it. -/
theorem blk_sub {o n : ℕ} {off : Fin 2 → ℕ} (h : off = ![o, 0]) (inb : ∀ a, off a + (⟨2, ![n, 2048]⟩ : Shape).size a ≤ S256x2048.size a)
    (lo N : ℕ) (h1 : lo ≤ o) (h2 : o + n ≤ lo + N) :
    blkM.view.setOn (Rect.unit (s := S256x2048) off (⟨2, ![n, 2048]⟩ : Shape).size inb).toLoadRect.set ⊆ blkRows lo N := by
  intro i hi
  have hi' : i ∈ (blkM.access (Rect.unit (s := S256x2048) off (⟨2, ![n, 2048]⟩ : Shape).size inb)).set := by
    rw [View.set_slice]; exact hi
  rw [show (blkM.access (Rect.unit (s := S256x2048) off (⟨2, ![n, 2048]⟩ : Shape).size inb)).set = _ from View.set_slice_whole cc0_scratch0 _] at hi'
  have := (mem_unit2 h inb i).mp hi'
  rw [mem_blkRows]
  omega

theorem part6_pay (c : Dev nD) (f : blkM.view.ty.Contents (Elt F)) :
    (vpts (zB c) (blkQ c) fullShare ((blkQ c).view.write (Elt F) f ((blkQ c).view.read (Elt F) (nb m (blk c))) Finset.univ) : sProp 𝕄) ⊢ pay m (peer 1 c) 15 0 := by
  refine (landed (zB c) (blkQ c) fullShare f (nb m (blk c)) _ rfl).trans (Entails.of_eq ?_)
  show _ = vpts (zB c) (blkQ (zB (zB c))) fullShare (nb m (blk (zB c)))
  rw [zB_zB, blk_zB]

set_option maxHeartbeats 400000 in
/-- The quarters of a half exchanged; the own quarter stored. -/
theorem part6_run (c : Dev nD) (l : List (ℕ × ℕ)) (v2 v5 v8 v9 v18 w : BitVec 32) {Q : BitVec 32 → sProp 𝕄} :
    iprop(env m K ∗ ow (F := F) c 6 ∗ vpts c (blkQ c) fullShare (nb m (blk c)) ∗ vany (F := F) (zB c) (blkQ c) ∗ snd (F := F) c 4 15 1 ∗ rcv (F := F) c 15 ∗ outAt m c l)
      ⊢ iprop((∀ b, (ow (F := F) c 7 ∗ done (F := F) c 4 ∗ done (F := F) c 15 ∗ vpts c (blkH c) fullShare (nb m (blk c))
            ∗ outAt m c ((256 * blk c + own c, 64) :: l)) -∗ Q b)
          -∗ run c (onBufs (k0_part6 (F := F)) c v2 v5 v8 v9 v18 (nrm m c) w) Q) := by
  rw [k0_part6_eq_skeleton]; unfold onBufs k0_part6_skel
  simp only [Prog.lift, Prog.bind_op, Prog.bind_ret, Prog.pure_eq_ret]
  unfold vany
  iintro ⟨⟨#HR, #Hlev⟩, HO, Hb, ⟨%fr, Hr⟩, ⟨Ht, Htp, Hat⟩, ⟨Hc, Hat'⟩, Hout⟩ Hk
  iapply (send_step m K c _ 6 4 15 1 (dev7_eq c) rfl rfl (src := blkQ c) (dst := blkQ c) rfl rfl rfl fullShare (nb m (blk c)) fr (BI.Entails.refl _)
      (part6_pay m c fr)) $$ [Hb Hr HO Ht Htp]
  · isplitr; · iexact HR
    isplitl [Hb]; · iexact Hb
    isplitl [Hr]; · iexact Hr
    isplitl [HO]; · iexact HO
    isplitl [Ht]; · iexact Ht
    iexact Htp
  iintro ⟨Hc2, HO⟩
  iapply (out_step m c l (256 * blk c + own c) 64 (off8_eq c) (k0_off8_inb c) (nrm m c) (out_own m c)) $$ Hout; iintro Hout
  iapply (wait_dma m K c 7 4 (by decide) (blkQ c) (blkQ c) rfl rfl (P := vpts c (blkQ c) fullShare (nb m (blk c))) rfl) $$ [HO Hc2 Hat]
  · isplitr; · iexact HR
    isplitr; · iexact Hlev
    isplitl [Hc2]; · iexact Hc2
    isplitl [Hat]; · iexact Hat
    iexact HO
  iintro ⟨HO, Hd4, Hb⟩
  iapply (wait_dma m K c 7 15 (by decide) (blkQ c) (blkQ c) rfl rfl (P := vpts c (blkQ (zB c)) fullShare (nb m (blk c))) rfl) $$ [HO Hc Hat']
  · isplitr; · iexact HR
    isplitr; · iexact Hlev
    isplitl [Hc]; · iexact Hc
    isplitl [Hat']; · iexact Hat'
    iexact HO
  iintro ⟨HO, Hd15, Hb'⟩
  iapply run_ret
  iapply Hk
  isplitl [HO]; · iexact HO
  isplitl [Hd4]; · iexact Hd4
  isplitl [Hd15]; · iexact Hd15
  isplitl [Hb Hb']
  · iapply (half_eq c fullShare (nb m (blk c))).2
    isplitl [Hb] <;> iassumption
  iexact Hout

theorem part7_pay (c : Dev nD) (f : blkM.view.ty.Contents (Elt F)) :
    (vpts (zA c) (blkH c) fullShare ((blkH c).view.write (Elt F) f ((blkH c).view.read (Elt F) (nb m (blk c))) Finset.univ) : sProp 𝕄) ⊢ pay m (peer 0 c) 16 0 := by
  refine (landed (zA c) (blkH c) fullShare f (nb m (blk c)) _ rfl).trans (Entails.of_eq ?_)
  show _ = vpts (zA c) (blkH (zA (zA c))) fullShare (nb m (blk (zA c)))
  rw [zA_zA, blk_zA]

theorem other_quarter : ∀ c : Dev nD, ∀ x < 64, (own (zB c) + x) / 64 ≠ 2 * hf c + qt c := by decide +kernel
theorem other_half : ∀ c : Dev nD, ∀ x < 128, (128 * hf (zA c) + x) / 64 ≠ 2 * hf c + qt c := by decide +kernel

set_option maxHeartbeats 400000 in
/-- The half passed on to the partner of the first exchange while its other quarter is stored. -/
theorem part7_run (c : Dev nD) (l : List (ℕ × ℕ)) (v2 v5 v8 v9 v11 v14 w : BitVec 32) {Q : (Σ' (v195 : BitVec 32) (v226 : BitVec 32), BitVec 32) → sProp 𝕄} :
    iprop(env m K ∗ ow (F := F) c 7 ∗ vpts c (blkH c) fullShare (nb m (blk c)) ∗ vany (F := F) (zA c) (blkH c) ∗ snd (F := F) c 5 16 0 ∗ outAt m c l)
      ⊢ iprop((∀ b, (ow (F := F) c 8 ∗ done (F := F) c 5 ∗ vpts c (blkH c) fullShare (nb m (blk c)) ∗ outAt m c ((256 * blk c + own (zB c), 64) :: l)) -∗ Q b)
          -∗ run c (onBufs (k0_part7 (F := F)) c v2 v5 v8 v9 v11 v14 w) Q) := by
  rw [k0_part7_eq_skeleton]; unfold onBufs k0_part7_skel
  simp only [Prog.lift, Prog.bind_op, Prog.bind_ret, Prog.pure_eq_ret]
  unfold vany
  iintro ⟨⟨#HR, #Hlev⟩, HO, Hb, ⟨%fr, Hr⟩, ⟨Ht, Htp, Hat⟩, Hout⟩ Hk
  ihave Hs := (share_eq c (blkH c) fullShare (nb m (blk c))).1 $$ Hb
  icases Hs with ⟨Hb, Hb'⟩
  iapply (send_step m K c _ 7 5 16 0 (dev8_eq c) rfl rfl (src := blkH c) (dst := blkH c) rfl rfl rfl qL (nb m (blk c)) fr (BI.Entails.refl _)
      (part7_pay m c fr)) $$ [Hb Hr HO Ht Htp]
  · isplitr; · iexact HR
    isplitl [Hb]; · iexact Hb
    isplitl [Hr]; · iexact Hr
    isplitl [HO]; · iexact HO
    isplitl [Ht]; · iexact Ht
    iexact Htp
  iintro ⟨Hc2, HO⟩
  iapply (ld_step c blkM (blkH c).view.set (Rect.unit (s := S256x2048) (k0_off10 c) S64x2048.size (k0_off10_inb c)).toLoadRect
      (by rw [set_blkH]; have := quarters c; exact blk_sub (off10_eq c) _ _ _ (by omega) (by omega)) qR (nb m (blk c))) $$ Hb'; iintro Hb'
  iapply (out_step m c l (256 * blk c + own (zB c)) 64 (off11_eq c) (k0_off11_inb c)
      (k0_pay6 (blkM.view.readAt (Elt F) (Rect.unit (s := S256x2048) (k0_off10 c) S64x2048.size (k0_off10_inb c)).toLoadRect (nb m (blk c))))
      (out_block m c (own (zB c)) (256 * blk c + own (zB c)) 64 (off11_eq c) rfl (k0_off11_inb c) (off10_eq c) (k0_off10_inb c)
        (by have := quarters c; have := hf_lt c; omega) (other_quarter c))) $$ Hout; iintro Hout
  iapply (wait_dma m K c 8 5 (by decide) (blkH c) (blkH c) rfl rfl (P := vpts c (blkH c) qL (nb m (blk c))) rfl) $$ [HO Hc2 Hat]
  · isplitr; · iexact HR
    isplitr; · iexact Hlev
    isplitl [Hc2]; · iexact Hc2
    isplitl [Hat]; · iexact Hat
    iexact HO
  iintro ⟨HO, Hd5, Hb⟩
  iapply run_ret
  iapply Hk
  isplitl [HO]; · iexact HO
  isplitl [Hd5]; · iexact Hd5
  isplitl [Hb Hb']
  · iapply (share_eq c (blkH c) fullShare (nb m (blk c))).2
    isplitl [Hb] <;> iassumption
  iexact Hout

theorem part8_pay_cw (c : Dev nD) (f : cwM.view.ty.Contents (Elt F)) :
    (vpts (cw c) (cwS 0 inb_S4x256x2048_S1x256x2048_0_0_0) fullShare
      ((cwS 0 inb_S4x256x2048_S1x256x2048_0_0_0).view.write (Elt F) f (blkM.view.read (Elt F) (nb m (blk c))) Finset.univ) : sProp 𝕄) ⊢ pay m (peer 2 c) 17 0 :=
  landed (cw c) (cwS 0 inb_S4x256x2048_S1x256x2048_0_0_0) fullShare f (cwG m (cw c)) _ (cw_first m c _).symm

theorem part8_pay_ccw (c : Dev nD) (f : ccwM.view.ty.Contents (Elt F)) :
    (vpts (ccw c) (ccwS 0 inb_S3x256x2048_S1x256x2048_0_0_0) fullShare
      ((ccwS 0 inb_S3x256x2048_S1x256x2048_0_0_0).view.write (Elt F) f (blkM.view.read (Elt F) (nb m (blk c))) Finset.univ) : sProp 𝕄) ⊢ pay m (peer 3 c) 21 0 :=
  landed (ccw c) (ccwS 0 inb_S3x256x2048_S1x256x2048_0_0_0) fullShare f (ccwG m (ccw c)) _ (ccw_first m c _).symm

set_option maxHeartbeats 400000 in
/-- The other half taken in, and the whole block sent both ways around the ring. -/
theorem part8_run (c : Dev nD) (v5 v8 v9 v25 v28 v32 v35 v195 v226 w : BitVec 32) {Q : BitVec 32 → sProp 𝕄} :
    iprop(env m K ∗ ow (F := F) c 8 ∗ rcv (F := F) c 16 ∗ vpts c (blkH c) fullShare (nb m (blk c))
        ∗ vany (F := F) (cw c) (cwS 0 inb_S4x256x2048_S1x256x2048_0_0_0) ∗ vany (F := F) (ccw c) (ccwS 0 inb_S3x256x2048_S1x256x2048_0_0_0)
        ∗ (tok (F := F) c 6 0 ∗ tok (F := F) (cw c) 17 0) ∗ (tok (F := F) c 10 0 ∗ tok (F := F) (ccw c) 21 0))
      ⊢ iprop((∀ b, (ow (F := F) c 10 ∗ done (F := F) c 16 ∗ crd (F := F) c 6 (units 6) ∗ crd (F := F) c 10 (units 10)
            ∗ vpts c blkM qR.right (nb m (blk c))) -∗ Q b)
          -∗ run c (onBufs (k0_part8 (F := F)) c v5 v8 v9 v25 v28 v32 v35 v195 v226 w) Q) := by
  rw [k0_part8_eq_skeleton]; unfold onBufs k0_part8_skel
  simp only [Prog.lift, Prog.bind_op, Prog.bind_ret, Prog.pure_eq_ret]
  unfold vany
  iintro ⟨⟨#HR, #Hlev⟩, HO, ⟨Hc, Hat⟩, Hb, ⟨%fr, Hr⟩, ⟨%fl, Hl⟩, ⟨Ht, Htp⟩, ⟨Ht', Htp'⟩⟩ Hk
  iapply (wait_dma m K c 8 16 (by decide) (blkH c) (blkH c) rfl rfl (P := vpts c (blkH (zA c)) fullShare (nb m (blk c))) rfl) $$ [HO Hc Hat]
  · isplitr; · iexact HR
    isplitr; · iexact Hlev
    isplitl [Hc]; · iexact Hc
    isplitl [Hat]; · iexact Hat
    iexact HO
  iintro ⟨HO, Hd16, Hb'⟩
  ihave Hb := (full_eq c fullShare (nb m (blk c))).2 $$ [Hb Hb']
  · isplitl [Hb] <;> iassumption
  ihave Hs := (share_eq c blkM fullShare (nb m (blk c))).1 $$ Hb
  icases Hs with ⟨Hb, Hb'⟩
  ihave Hs := (share_eq c blkM qR (nb m (blk c))).1 $$ Hb'
  icases Hs with ⟨Hb1, Hb2⟩
  iapply (send_step m K c _ 8 6 17 2 (dev9_eq c) rfl rfl (src := blkM) (dst := cwS 0 inb_S4x256x2048_S1x256x2048_0_0_0) rfl rfl rfl qL (nb m (blk c)) fr (BI.Entails.refl _)
      (part8_pay_cw m c fr)) $$ [Hb Hr HO Ht Htp]
  · isplitr; · iexact HR
    isplitl [Hb]; · iexact Hb
    isplitl [Hr]; · iexact Hr
    isplitl [HO]; · iexact HO
    isplitl [Ht]; · iexact Ht
    iexact Htp
  iintro ⟨Hc6, HO⟩
  iapply (send_step m K c _ 9 10 21 3 (dev10_eq c) rfl rfl (src := blkM) (dst := ccwS 0 inb_S3x256x2048_S1x256x2048_0_0_0) rfl rfl rfl qR.left (nb m (blk c)) fl (BI.Entails.refl _)
      (part8_pay_ccw m c fl)) $$ [Hb1 Hl HO Ht' Htp']
  · isplitr; · iexact HR
    isplitl [Hb1]; · iexact Hb1
    isplitl [Hl]; · iexact Hl
    isplitl [HO]; · iexact HO
    isplitl [Ht']; · iexact Ht'
    iexact Htp'
  iintro ⟨Hc10, HO⟩
  iapply run_ret
  iapply Hk
  isplitl [HO]; · iexact HO
  isplitl [Hd16]; · iexact Hd16
  isplitl [Hc6]; · iexact Hc6
  isplitl [Hc10]; · iexact Hc10
  iexact Hb2

set_option maxHeartbeats 400000 in
/-- The other half stored; the ends of the first hops waited for. -/
theorem part9_run (c : Dev nD) (l : List (ℕ × ℕ)) (v8 v9 v14 v25 v28 v260 : BitVec 32) {Q : PUnit → sProp 𝕄} :
    iprop(env m K ∗ ow (F := F) c 10 ∗ vpts c blkM qR.right (nb m (blk c)) ∗ rcv (F := F) c 6 ∗ rcv (F := F) c 17 ∗ rcv (F := F) c 10 ∗ outAt m c l)
      ⊢ iprop(((ow (F := F) c 10 ∗ done (F := F) c 6 ∗ done (F := F) c 17 ∗ done (F := F) c 10 ∗ vpts c blkM fullShare (nb m (blk c))
            ∗ vpts c (cwS 0 inb_S4x256x2048_S1x256x2048_0_0_0) fullShare (cwG m c) ∗ outAt m c ((256 * blk c + 128 * hf (zA c), 128) :: l)) -∗ Q ⟨⟩)
          -∗ run c (onBufs (k0_part9 (F := F)) c v8 v9 v14 v25 v28 v260) Q) := by
  rw [k0_part9_eq_skeleton]; unfold onBufs k0_part9_skel
  simp only [Prog.lift, Prog.bind_op, Prog.bind_ret, Prog.pure_eq_ret]
  iintro ⟨⟨#HR, #Hlev⟩, HO, Hb2, ⟨Hc6, Hat6⟩, ⟨Hc17, Hat17⟩, ⟨Hc10, Hat10⟩, Hout⟩ Hk
  iapply (ld_step c blkM blkM.view.set (Rect.unit (s := S256x2048) (k0_off12 c) S128x2048.size (k0_off12_inb c)).toLoadRect (ld_sub _ _) qR.right (nb m (blk c))) $$ Hb2; iintro Hb2
  iapply (out_step m c l (256 * blk c + 128 * hf (zA c)) 128 (off13_eq c) (k0_off13_inb c)
      (k0_pay7 (blkM.view.readAt (Elt F) (Rect.unit (s := S256x2048) (k0_off12 c) S128x2048.size (k0_off12_inb c)).toLoadRect (nb m (blk c))))
      (out_block m c (128 * hf (zA c)) (256 * blk c + 128 * hf (zA c)) 128 (off13_eq c) rfl (k0_off13_inb c) (off12_eq c) (k0_off12_inb c)
        (by have := halves c; omega) (other_half c))) $$ Hout; iintro Hout
  iapply (wait_dma m K c 10 6 (by decide) (cwS 0 inb_S4x256x2048_S1x256x2048_0_0_0) blkM rfl rfl (P := vpts c blkM qL (nb m (blk c))) rfl) $$ [HO Hc6 Hat6]
  · isplitr; · iexact HR
    isplitr; · iexact Hlev
    isplitl [Hc6]; · iexact Hc6
    isplitl [Hat6]; · iexact Hat6
    iexact HO
  iintro ⟨HO, Hd6, Hb⟩
  iapply (wait_dma m K c 10 17 (by decide) blkM (cwS 0 inb_S4x256x2048_S1x256x2048_0_0_0) rfl rfl
      (P := vpts c (cwS 0 inb_S4x256x2048_S1x256x2048_0_0_0) fullShare (cwG m c)) rfl) $$ [HO Hc17 Hat17]
  · isplitr; · iexact HR
    isplitr; · iexact Hlev
    isplitl [Hc17]; · iexact Hc17
    isplitl [Hat17]; · iexact Hat17
    iexact HO
  iintro ⟨HO, Hd17, Hcw⟩
  iapply (wait_dma m K c 10 10 (by decide) (ccwS 0 inb_S3x256x2048_S1x256x2048_0_0_0) blkM rfl rfl (P := vpts c blkM qR.left (nb m (blk c))) rfl) $$ [HO Hc10 Hat10]
  · isplitr; · iexact HR
    isplitr; · iexact Hlev
    isplitl [Hc10]; · iexact Hc10
    isplitl [Hat10]; · iexact Hat10
    iexact HO
  iintro ⟨HO, Hd10, Hb1⟩
  iapply run_ret
  iapply Hk
  isplitl [HO]; · iexact HO
  isplitl [Hd6]; · iexact Hd6
  isplitl [Hd17]; · iexact Hd17
  isplitl [Hd10]; · iexact Hd10
  isplitl [Hb Hb1 Hb2]
  · iapply (share_eq c blkM fullShare (nb m (blk c))).2
    isplitl [Hb]; · iexact Hb
    iapply (share_eq c blkM qR (nb m (blk c))).2
    isplitl [Hb1] <;> iassumption
  isplitl [Hcw]; · iexact Hcw
  iexact Hout

end Cert.KernelIdeal.Cube
-- ==== Proof.KernelIdeal.Body3.lean ====
/- The body of the kernel around the ring: the later hops, and the blocks of the other groups stored as
   they arrive. One theorem for each printed part. -/
module

public import proofs.«01_k».proof.Proof.KernelIdeal.Body2

@[expose] public section

noncomputable section

namespace Cert.KernelIdeal.Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 24 → ℕ)

abbrev cw0 := cwS 0 inb_S4x256x2048_S1x256x2048_0_0_0
abbrev cw1 := cwS 1 inb_S4x256x2048_S1x256x2048_1_0_0
abbrev cw2 := cwS 2 inb_S4x256x2048_S1x256x2048_2_0_0
abbrev cw3 := cwS 3 inb_S4x256x2048_S1x256x2048_3_0_0
abbrev ccw0 := ccwS 0 inb_S3x256x2048_S1x256x2048_0_0_0
abbrev ccw1 := ccwS 1 inb_S3x256x2048_S1x256x2048_1_0_0
abbrev ccw2 := ccwS 2 inb_S3x256x2048_S1x256x2048_2_0_0

/-- The rectangle of a slot. -/
abbrev rcw (h : ℕ) (hh : ∀ a, (![h, 0, 0] : Fin 3 → ℕ) a + S1x256x2048.size a ≤ S4x256x2048.size a) : Rect S4x256x2048 :=
  Rect.unit (s := S4x256x2048) ![h, 0, 0] S1x256x2048.size hh
abbrev rccw (h : ℕ) (hh : ∀ a, (![h, 0, 0] : Fin 3 → ℕ) a + S1x256x2048.size a ≤ S3x256x2048.size a) : Rect S3x256x2048 :=
  Rect.unit (s := S3x256x2048) ![h, 0, 0] S1x256x2048.size hh

theorem slot_cw (h : ℕ) (hh) : cwM.view.setOn (rcw h hh).toLoadRect.set ⊆ (cwS h hh).view.set := by
  have e : (cwS h hh).view.set = (cwM.view.slice (rcw h hh)).set := by
    show (((cwM.view.slice _).reshape _ _).set) = _
    rw [View.set_reshape]
  rw [e, View.set_slice]
  exact subset_rfl
theorem slot_ccw (h : ℕ) (hh) : ccwM.view.setOn (rccw h hh).toLoadRect.set ⊆ (ccwS h hh).view.set := by
  have e : (ccwS h hh).view.set = (ccwM.view.slice (rccw h hh)).set := by
    show (((ccwM.view.slice _).reshape _ _).set) = _
    rw [View.set_reshape]
  rw [e, View.set_slice]
  exact subset_rfl

theorem ccw_ne : ∀ (c : Dev nD) (h : Fin 4), blk (ccw^[h.val + 1] c) ≠ blk c := by decide +kernel
theorem cw_ne : ∀ (c : Dev nD) (h : Fin 3), blk (cw^[h.val + 1] c) ≠ blk c := by decide +kernel

/-- What the kernel stores from a slot of the forward buffer is what the result is to hold there. -/
theorem hop_cw (c : Dev nD) (h : Fin 4) {off : Fin 2 → ℕ} (ho : off = ![256 * blk (ccw^[h.val + 1] c), 0])
    (inb : ∀ a, off a + S256x2048.size a ≤ S2048x2048.size a) (hh) (i : S256x2048.Idx) :
    outG m c ((Rect.unit (s := S2048x2048) off S256x2048.size inb).idx i)
      = (extf .f32 (shapeCast S256x2048 (cwM.view.readAt (Elt F) (rcw h.val hh).toLoadRect (cwG m c)) shapeCasts_S1x256x2048_S256x2048 : FVec F S256x2048 .bf16) bitsLt_bf16_f32 : FVec F S256x2048 .f32) i := by
  rw [out_hop m c _ ho inb (blk_lt _) (ccw_ne c h), ← cwG_slot m c h.val hh h.isLt]
  rfl
theorem hop_ccw (c : Dev nD) (h : Fin 3) {off : Fin 2 → ℕ} (ho : off = ![256 * blk (cw^[h.val + 1] c), 0])
    (inb : ∀ a, off a + S256x2048.size a ≤ S2048x2048.size a) (hh) (i : S256x2048.Idx) :
    outG m c ((Rect.unit (s := S2048x2048) off S256x2048.size inb).idx i)
      = (extf .f32 (shapeCast S256x2048 (ccwM.view.readAt (Elt F) (rccw h.val hh).toLoadRect (ccwG m c)) shapeCasts_S1x256x2048_S256x2048 : FVec F S256x2048 .bf16) bitsLt_bf16_f32 : FVec F S256x2048 .f32) i := by
  rw [out_hop m c _ ho inb (blk_lt _) (cw_ne c h), ← ccwG_slot m c h.val hh h.isLt]
  rfl

/-- A block passed on is the next slot of the neighbour. -/
theorem hop_pay_cw (c : Dev nD) (h : ℕ) (h4 : h + 1 < 4) (hh hh') (f : cwM.view.ty.Contents (Elt F)) :
    (vpts (cw c) (cwS (h + 1) hh) fullShare ((cwS (h + 1) hh).view.write (Elt F) f ((cwS h hh').view.read (Elt F) (cwG m c)) Finset.univ) : sProp 𝕄)
      ⊢ vpts (cw c) (cwS (h + 1) hh) fullShare (cwG m (cw c)) :=
  landed (cw c) (cwS (h + 1) hh) fullShare f (cwG m (cw c)) _ (cw_step m c h h4 hh hh').symm
theorem hop_pay_ccw (c : Dev nD) (h : ℕ) (h3 : h + 1 < 3) (hh hh') (f : ccwM.view.ty.Contents (Elt F)) :
    (vpts (ccw c) (ccwS (h + 1) hh) fullShare ((ccwS (h + 1) hh).view.write (Elt F) f ((ccwS h hh').view.read (Elt F) (ccwG m c)) Finset.univ) : sProp 𝕄)
      ⊢ vpts (ccw c) (ccwS (h + 1) hh) fullShare (ccwG m (ccw c)) :=
  landed (ccw c) (ccwS (h + 1) hh) fullShare f (ccwG m (ccw c)) _ (ccw_step m c h h3 hh hh').symm

set_option maxHeartbeats 400000 in
/-- The backward neighbour's block taken in; the forward block passed on. -/
theorem part10_run (c : Dev nD) (v8 v25 v28 v32 v35 : BitVec 32) {Q : PUnit → sProp 𝕄} :
    iprop(env m K ∗ ow (F := F) c 10 ∗ rcv (F := F) c 21 ∗ vpts c cw0 fullShare (cwG m c) ∗ vany (F := F) (cw c) cw1 ∗ (tok (F := F) c 7 0 ∗ tok (F := F) (cw c) 18 0))
      ⊢ iprop(((ow (F := F) c 11 ∗ done (F := F) c 21 ∗ vpts c ccw0 fullShare (ccwG m c) ∗ crd (F := F) c 7 (units 7) ∗ vpts c cw0 qR (cwG m c)) -∗ Q ⟨⟩)
          -∗ run c (onBufs (k0_part10 (F := F)) c v8 v25 v28 v32 v35) Q) := by
  rw [k0_part10_eq_skeleton]; unfold onBufs k0_part10_skel
  simp only [Prog.lift, Prog.bind_op, Prog.bind_ret, Prog.pure_eq_ret]
  unfold vany
  iintro ⟨⟨#HR, #Hlev⟩, HO, ⟨Hc, Hat⟩, Hs0, ⟨%fr, Hr⟩, ⟨Ht, Htp⟩⟩ Hk
  iapply (wait_dma m K c 10 21 (by decide) blkM ccw0 rfl rfl (P := vpts c ccw0 fullShare (ccwG m c)) rfl) $$ [HO Hc Hat]
  · isplitr; · iexact HR
    isplitr; · iexact Hlev
    isplitl [Hc]; · iexact Hc
    isplitl [Hat]; · iexact Hat
    iexact HO
  iintro ⟨HO, Hd21, Hl⟩
  ihave Hs := (share_eq c cw0 fullShare (cwG m c)).1 $$ Hs0
  icases Hs with ⟨Ha, Hb⟩
  iapply (send_step m K c _ 10 7 18 2 (dev11_eq c) rfl rfl (src := cw0) (dst := cw1) rfl rfl rfl qL (cwG m c) fr (BI.Entails.refl _)
      (hop_pay_cw m c 0 (by decide) _ _ fr)) $$ [Ha Hr HO Ht Htp]
  · isplitr; · iexact HR
    isplitl [Ha]; · iexact Ha
    isplitl [Hr]; · iexact Hr
    isplitl [HO]; · iexact HO
    isplitl [Ht]; · iexact Ht
    iexact Htp
  iintro ⟨Hc7, HO⟩
  iapply run_ret
  iapply Hk
  isplitl [HO]; · iexact HO
  isplitl [Hd21]; · iexact Hd21
  isplitl [Hl]; · iexact Hl
  isplitl [Hc7]; · iexact Hc7
  iexact Hb

set_option maxHeartbeats 400000 in
/-- The backward block passed on; the forward block stored. -/
theorem part11_run (c : Dev nD) (l : List (ℕ × ℕ)) (v21 : BitVec 32) {Q : (Σ' (v344 : BitVec 32) (v346 : FVec F S256x2048 .bf16) (v348 : BitVec 32), BitVec 1) → sProp 𝕄} :
    iprop(env m K ∗ ow (F := F) c 11 ∗ vpts c ccw0 fullShare (ccwG m c) ∗ vany (F := F) (ccw c) ccw1 ∗ (tok (F := F) c 11 0 ∗ tok (F := F) (ccw c) 22 0) ∗ vpts c cw0 qR (cwG m c) ∗ outAt m c l)
      ⊢ iprop((∀ a b d, (ow (F := F) c 12 ∗ crd (F := F) c 11 (units 11) ∗ vpts c ccw0 qR (ccwG m c) ∗ vpts c cw0 qR (cwG m c) ∗ outAt m c ((256 * blk (ccw^[0 + 1] c), 256) :: l)) -∗ Q ⟨a, nb m (blk (cw c)), b, d⟩)
          -∗ run c (onBufs (k0_part11 (F := F)) c v21) Q) := by
  rw [k0_part11_eq_skeleton]; unfold onBufs k0_part11_skel
  simp only [Prog.lift, Prog.bind_op, Prog.bind_ret, Prog.pure_eq_ret]
  unfold vany
  iintro ⟨⟨#HR, #Hlev⟩, HO, Hs0, ⟨%fr, Hr⟩, ⟨Ht, Htp⟩, Hcw, Hout⟩ Hk
  ihave Hs := (share_eq c ccw0 fullShare (ccwG m c)).1 $$ Hs0
  icases Hs with ⟨Ha, Hb⟩
  iapply (send_step m K c _ 11 11 22 3 (dev12_eq c) rfl rfl (src := ccw0) (dst := ccw1) rfl rfl rfl qL (ccwG m c) fr (BI.Entails.refl _)
      (hop_pay_ccw m c 0 (by decide) _ _ fr)) $$ [Ha Hr HO Ht Htp]
  · isplitr; · iexact HR
    isplitl [Ha]; · iexact Ha
    isplitl [Hr]; · iexact Hr
    isplitl [HO]; · iexact HO
    isplitl [Ht]; · iexact Ht
    iexact Htp
  iintro ⟨Hc11, HO⟩
  iapply (ld_step c cwM (cw0 : Memref sig .tc .vmem S256x2048 .bf16).view.set (rcw 0 inb_S4x256x2048_S1x256x2048_0_0_0).toLoadRect (slot_cw 0 _) qR (cwG m c)) $$ Hcw; iintro Hcw
  iapply (out_step m c l (256 * blk (ccw^[0 + 1] c)) 256 (off14_eq c 0) (k0_off14_inb c 0)
      (k0_pay8 (cwM.view.readAt (Elt F) (rcw 0 inb_S4x256x2048_S1x256x2048_0_0_0).toLoadRect (cwG m c))) (hop_cw m c 0 (off14_eq c 0) _ _)) $$ Hout; iintro Hout
  iapply (ld_step c ccwM (ccw0 : Memref sig .tc .vmem S256x2048 .bf16).view.set (rccw 0 inb_S3x256x2048_S1x256x2048_0_0_0).toLoadRect (slot_ccw 0 _) qR (ccwG m c)) $$ Hb; iintro Hb
  rw [show k0_pay9 (ccwM.view.readAt (Elt F) (rccw 0 inb_S3x256x2048_S1x256x2048_0_0_0).toLoadRect (ccwG m c)) = nb m (blk (cw c)) from ccwG_slot m c 0 inb_S3x256x2048_S1x256x2048_0_0_0 (by decide)]
  iapply run_ret
  iapply Hk
  isplitl [HO]; · iexact HO
  isplitl [Hc11]; · iexact Hc11
  isplitl [Hb]; · iexact Hb
  isplitl [Hcw]; · iexact Hcw
  iexact Hout

set_option maxHeartbeats 400000 in
/-- The backward block stored; the ends of the second forward hop waited for. -/
theorem part12_run (c : Dev nD) (l : List (ℕ × ℕ)) (v8 v25 v28 v344 v348 : BitVec 32) (v349 : BitVec 1) {Q : PUnit → sProp 𝕄} :
    iprop(env m K ∗ ow (F := F) c 12 ∗ rcv (F := F) c 7 ∗ rcv (F := F) c 18 ∗ vpts c cw0 qR (cwG m c) ∗ outAt m c l)
      ⊢ iprop(((ow (F := F) c 12 ∗ done (F := F) c 7 ∗ done (F := F) c 18 ∗ vpts c cw0 fullShare (cwG m c) ∗ vpts c cw1 fullShare (cwG m c) ∗ outAt m c ((256 * blk (cw^[0 + 1] c), 256) :: l)) -∗ Q ⟨⟩)
          -∗ run c (onBufs (k0_part12 (F := F)) c v8 v25 v28 v344 (nb m (blk (cw c))) v348 v349) Q) := by
  rw [k0_part12_eq_skeleton]; unfold onBufs k0_part12_skel
  simp only [Prog.lift, Prog.bind_op, Prog.bind_ret, Prog.pure_eq_ret]
  iintro ⟨⟨#HR, #Hlev⟩, HO, ⟨Hc7, Hat7⟩, ⟨Hc18, Hat18⟩, Hb, Hout⟩ Hk
  iapply (out_step m c l (256 * blk (cw^[0 + 1] c)) 256 (off15_eq c 0) (k0_off15_inb c 0)
      (k0_pay10 (nb m (blk (cw c)))) (out_hop m c (blk (cw c)) (off15_eq c 0) (k0_off15_inb c 0) (blk_lt _) (cw_ne c 0))) $$ Hout; iintro Hout
  iapply (wait_dma m K c 12 7 (by decide) cw1 cw0 rfl rfl (P := vpts c cw0 qL (cwG m c)) rfl) $$ [HO Hc7 Hat7]
  · isplitr; · iexact HR
    isplitr; · iexact Hlev
    isplitl [Hc7]; · iexact Hc7
    isplitl [Hat7]; · iexact Hat7
    iexact HO
  iintro ⟨HO, Hd7, Ha⟩
  ihave Hs0 := (share_eq c cw0 fullShare (cwG m c)).2 $$ [Ha Hb]
  · isplitl [Ha] <;> iassumption
  iapply (wait_dma m K c 12 18 (by decide) cw0 cw1 rfl rfl (P := vpts c cw1 fullShare (cwG m c)) rfl) $$ [HO Hc18 Hat18]
  · isplitr; · iexact HR
    isplitr; · iexact Hlev
    isplitl [Hc18]; · iexact Hc18
    isplitl [Hat18]; · iexact Hat18
    iexact HO
  iintro ⟨HO, Hd18, Hs1⟩
  iapply run_ret
  iapply Hk
  isplitl [HO]; · iexact HO
  isplitl [Hd7]; · iexact Hd7
  isplitl [Hd18]; · iexact Hd18
  isplitl [Hs0]; · iexact Hs0
  isplitl [Hs1]; · iexact Hs1
  iexact Hout

set_option maxHeartbeats 400000 in
/-- The ends of the second backward hop waited for. -/
theorem part13_run (c : Dev nD) (v8 v25 v28 v32 v35 : BitVec 32) {Q : PUnit → sProp 𝕄} :
    iprop(env m K ∗ ow (F := F) c 12 ∗ rcv (F := F) c 11 ∗ rcv (F := F) c 22 ∗ vpts c ccw0 qR (ccwG m c))
      ⊢ iprop(((ow (F := F) c 12 ∗ done (F := F) c 11 ∗ done (F := F) c 22 ∗ vpts c ccw0 fullShare (ccwG m c) ∗ vpts c ccw1 fullShare (ccwG m c)) -∗ Q ⟨⟩)
          -∗ run c (onBufs (k0_part13 (F := F)) v8 v25 v28 v32 v35) Q) := by
  rw [k0_part13_eq_skeleton]; unfold onBufs k0_part13_skel
  simp only [Prog.lift, Prog.bind_op, Prog.bind_ret, Prog.pure_eq_ret]
  iintro ⟨⟨#HR, #Hlev⟩, HO, ⟨Hc11, Hat11⟩, ⟨Hc22, Hat22⟩, Hb⟩ Hk
  iapply (wait_dma m K c 12 11 (by decide) ccw1 ccw0 rfl rfl (P := vpts c ccw0 qL (ccwG m c)) rfl) $$ [HO Hc11 Hat11]
  · isplitr; · iexact HR
    isplitr; · iexact Hlev
    isplitl [Hc11]; · iexact Hc11
    isplitl [Hat11]; · iexact Hat11
    iexact HO
  iintro ⟨HO, Hd11, Ha⟩
  ihave Hs0 := (share_eq c ccw0 fullShare (ccwG m c)).2 $$ [Ha Hb]
  · isplitl [Ha] <;> iassumption
  iapply (wait_dma m K c 12 22 (by decide) ccw0 ccw1 rfl rfl (P := vpts c ccw1 fullShare (ccwG m c)) rfl) $$ [HO Hc22 Hat22]
  · isplitr; · iexact HR
    isplitr; · iexact Hlev
    isplitl [Hc22]; · iexact Hc22
    isplitl [Hat22]; · iexact Hat22
    iexact HO
  iintro ⟨HO, Hd22, Hs1⟩
  iapply run_ret
  iapply Hk
  isplitl [HO]; · iexact HO
  isplitl [Hd11]; · iexact Hd11
  isplitl [Hd22]; · iexact Hd22
  isplitl [Hs0]; · iexact Hs0
  iexact Hs1

set_option maxHeartbeats 400000 in
/-- The third hops both ways; the second forward block stored. -/
theorem part14_run (c : Dev nD) (l : List (ℕ × ℕ)) (v8 v21 v32 v35 : BitVec 32) {Q : PUnit → sProp 𝕄} :
    iprop(env m K ∗ ow (F := F) c 12 ∗ vpts c cw1 fullShare (cwG m c) ∗ vany (F := F) (cw c) cw2 ∗ (tok (F := F) c 8 0 ∗ tok (F := F) (cw c) 19 0) ∗ vpts c ccw1 fullShare (ccwG m c) ∗ vany (F := F) (ccw c) ccw2 ∗ (tok (F := F) c 12 0 ∗ tok (F := F) (ccw c) 23 0) ∗ outAt m c l)
      ⊢ iprop(((ow (F := F) c 14 ∗ crd (F := F) c 8 (units 8) ∗ crd (F := F) c 12 (units 12) ∗ vpts c cw1 qR (cwG m c) ∗ vpts c ccw1 qR (ccwG m c) ∗ outAt m c ((256 * blk (ccw^[1 + 1] c), 256) :: l)) -∗ Q ⟨⟩)
          -∗ run c (onBufs (k0_part14 (F := F)) c v8 v21 v32 v35) Q) := by
  rw [k0_part14_eq_skeleton]; unfold onBufs k0_part14_skel
  simp only [Prog.lift, Prog.bind_op, Prog.bind_ret, Prog.pure_eq_ret]
  unfold vany
  iintro ⟨⟨#HR, #Hlev⟩, HO, Hs1, ⟨%fr, Hr⟩, ⟨Ht, Htp⟩, Hl1, ⟨%fl, Hl⟩, ⟨Ht', Htp'⟩, Hout⟩ Hk
  ihave Hs := (share_eq c cw1 fullShare (cwG m c)).1 $$ Hs1
  icases Hs with ⟨Ha, Hb⟩
  iapply (send_step m K c _ 12 8 19 2 (dev13_eq c) rfl rfl (src := cw1) (dst := cw2) rfl rfl rfl qL (cwG m c) fr (BI.Entails.refl _)
      (hop_pay_cw m c 1 (by decide) _ _ fr)) $$ [Ha Hr HO Ht Htp]
  · isplitr; · iexact HR
    isplitl [Ha]; · iexact Ha
    isplitl [Hr]; · iexact Hr
    isplitl [HO]; · iexact HO
    isplitl [Ht]; · iexact Ht
    iexact Htp
  iintro ⟨Hc8, HO⟩
  ihave Hs := (share_eq c ccw1 fullShare (ccwG m c)).1 $$ Hl1
  icases Hs with ⟨Hd, He⟩
  iapply (send_step m K c _ 13 12 23 3 (dev14_eq c) rfl rfl (src := ccw1) (dst := ccw2) rfl rfl rfl qL (ccwG m c) fl (BI.Entails.refl _)
      (hop_pay_ccw m c 1 (by decide) _ _ fl)) $$ [Hd Hl HO Ht' Htp']
  · isplitr; · iexact HR
    isplitl [Hd]; · iexact Hd
    isplitl [Hl]; · iexact Hl
    isplitl [HO]; · iexact HO
    isplitl [Ht']; · iexact Ht'
    iexact Htp'
  iintro ⟨Hc12, HO⟩
  iapply (ld_step c cwM (cw1 : Memref sig .tc .vmem S256x2048 .bf16).view.set (rcw 1 inb_S4x256x2048_S1x256x2048_1_0_0).toLoadRect (slot_cw 1 _) qR (cwG m c)) $$ Hb; iintro Hb
  iapply (out_step m c l (256 * blk (ccw^[1 + 1] c)) 256 (off14_eq c 1) (k0_off14_inb c 1)
      (k0_pay11 (cwM.view.readAt (Elt F) (rcw 1 inb_S4x256x2048_S1x256x2048_1_0_0).toLoadRect (cwG m c))) (hop_cw m c 1 (off14_eq c 1) _ _)) $$ Hout; iintro Hout
  iapply run_ret
  iapply Hk
  isplitl [HO]; · iexact HO
  isplitl [Hc8]; · iexact Hc8
  isplitl [Hc12]; · iexact Hc12
  isplitl [Hb]; · iexact Hb
  isplitl [He]; · iexact He
  iexact Hout

set_option maxHeartbeats 400000 in
/-- The second backward block stored; the end of the third forward send waited for. -/
theorem part15_run (c : Dev nD) (l : List (ℕ × ℕ)) (v8 v21 v25 v28 : BitVec 32) {Q : (Σ' (v463 : BitVec 32), BitVec 32) → sProp 𝕄} :
    iprop(env m K ∗ ow (F := F) c 14 ∗ vpts c ccw1 qR (ccwG m c) ∗ rcv (F := F) c 8 ∗ vpts c cw1 qR (cwG m c) ∗ outAt m c l)
      ⊢ iprop((∀ b, (ow (F := F) c 14 ∗ done (F := F) c 8 ∗ vpts c ccw1 qR (ccwG m c) ∗ vpts c cw1 fullShare (cwG m c) ∗ outAt m c ((256 * blk (cw^[1 + 1] c), 256) :: l)) -∗ Q b)
          -∗ run c (onBufs (k0_part15 (F := F)) c v8 v21 v25 v28) Q) := by
  rw [k0_part15_eq_skeleton]; unfold onBufs k0_part15_skel
  simp only [Prog.lift, Prog.bind_op, Prog.bind_ret, Prog.pure_eq_ret]
  iintro ⟨⟨#HR, #Hlev⟩, HO, He, ⟨Hc8, Hat8⟩, Hb, Hout⟩ Hk
  iapply (ld_step c ccwM (ccw1 : Memref sig .tc .vmem S256x2048 .bf16).view.set (rccw 1 inb_S3x256x2048_S1x256x2048_1_0_0).toLoadRect (slot_ccw 1 _) qR (ccwG m c)) $$ He; iintro He
  iapply (out_step m c l (256 * blk (cw^[1 + 1] c)) 256 (off15_eq c 1) (k0_off15_inb c 1)
      (k0_pay12 (ccwM.view.readAt (Elt F) (rccw 1 inb_S3x256x2048_S1x256x2048_1_0_0).toLoadRect (ccwG m c))) (hop_ccw m c 1 (off15_eq c 1) _ _)) $$ Hout; iintro Hout
  iapply (wait_dma m K c 14 8 (by decide) cw2 cw1 rfl rfl (P := vpts c cw1 qL (cwG m c)) rfl) $$ [HO Hc8 Hat8]
  · isplitr; · iexact HR
    isplitr; · iexact Hlev
    isplitl [Hc8]; · iexact Hc8
    isplitl [Hat8]; · iexact Hat8
    iexact HO
  iintro ⟨HO, Hd8, Ha⟩
  ihave Hs1 := (share_eq c cw1 fullShare (cwG m c)).2 $$ [Ha Hb]
  · isplitl [Ha] <;> iassumption
  iapply run_ret
  iapply Hk
  isplitl [HO]; · iexact HO
  isplitl [Hd8]; · iexact Hd8
  isplitl [He]; · iexact He
  isplitl [Hs1]; · iexact Hs1
  iexact Hout

set_option maxHeartbeats 400000 in
/-- The other ends of the third hops waited for. -/
theorem part16_run (c : Dev nD) (v8 v25 v32 v35 v463 v464 : BitVec 32) {Q : (Σ' (v490 : BitVec 32), BitVec 32) → sProp 𝕄} :
    iprop(env m K ∗ ow (F := F) c 14 ∗ rcv (F := F) c 19 ∗ rcv (F := F) c 12 ∗ rcv (F := F) c 23 ∗ vpts c ccw1 qR (ccwG m c))
      ⊢ iprop((∀ b, (ow (F := F) c 14 ∗ done (F := F) c 19 ∗ done (F := F) c 12 ∗ done (F := F) c 23 ∗ vpts c cw2 fullShare (cwG m c) ∗ vpts c ccw1 fullShare (ccwG m c) ∗ vpts c ccw2 fullShare (ccwG m c)) -∗ Q b)
          -∗ run c (onBufs (k0_part16 (F := F)) v8 v25 v32 v35 v463 v464) Q) := by
  rw [k0_part16_eq_skeleton]; unfold onBufs k0_part16_skel
  simp only [Prog.lift, Prog.bind_op, Prog.bind_ret, Prog.pure_eq_ret]
  iintro ⟨⟨#HR, #Hlev⟩, HO, ⟨Hc19, Hat19⟩, ⟨Hc12, Hat12⟩, ⟨Hc23, Hat23⟩, Hb⟩ Hk
  iapply (wait_dma m K c 14 19 (by decide) cw1 cw2 rfl rfl (P := vpts c cw2 fullShare (cwG m c)) rfl) $$ [HO Hc19 Hat19]
  · isplitr; · iexact HR
    isplitr; · iexact Hlev
    isplitl [Hc19]; · iexact Hc19
    isplitl [Hat19]; · iexact Hat19
    iexact HO
  iintro ⟨HO, Hd19, Hs2⟩
  iapply (wait_dma m K c 14 12 (by decide) ccw2 ccw1 rfl rfl (P := vpts c ccw1 qL (ccwG m c)) rfl) $$ [HO Hc12 Hat12]
  · isplitr; · iexact HR
    isplitr; · iexact Hlev
    isplitl [Hc12]; · iexact Hc12
    isplitl [Hat12]; · iexact Hat12
    iexact HO
  iintro ⟨HO, Hd12, Ha⟩
  ihave Hl1 := (share_eq c ccw1 fullShare (ccwG m c)).2 $$ [Ha Hb]
  · isplitl [Ha] <;> iassumption
  iapply (wait_dma m K c 14 23 (by decide) ccw1 ccw2 rfl rfl (P := vpts c ccw2 fullShare (ccwG m c)) rfl) $$ [HO Hc23 Hat23]
  · isplitr; · iexact HR
    isplitr; · iexact Hlev
    isplitl [Hc23]; · iexact Hc23
    isplitl [Hat23]; · iexact Hat23
    iexact HO
  iintro ⟨HO, Hd23, Hl2⟩
  iapply run_ret
  iapply Hk
  isplitl [HO]; · iexact HO
  isplitl [Hd19]; · iexact Hd19
  isplitl [Hd12]; · iexact Hd12
  isplitl [Hd23]; · iexact Hd23
  isplitl [Hs2]; · iexact Hs2
  isplitl [Hl1]; · iexact Hl1
  iexact Hl2

set_option maxHeartbeats 400000 in
/-- The last forward hop; the third forward block stored. -/
theorem part17_run (c : Dev nD) (l : List (ℕ × ℕ)) (v8 v21 v28 v490 w : BitVec 32) {Q : BitVec 32 → sProp 𝕄} :
    iprop(env m K ∗ ow (F := F) c 14 ∗ vpts c cw2 fullShare (cwG m c) ∗ vany (F := F) (cw c) cw3 ∗ (tok (F := F) c 9 0 ∗ tok (F := F) (cw c) 20 0) ∗ outAt m c l)
      ⊢ iprop((∀ b, (ow (F := F) c 15 ∗ crd (F := F) c 9 (units 9) ∗ vpts c cw2 qR (cwG m c) ∗ outAt m c ((256 * blk (ccw^[2 + 1] c), 256) :: l)) -∗ Q b)
          -∗ run c (onBufs (k0_part17 (F := F)) c v8 v21 v28 v490 w) Q) := by
  rw [k0_part17_eq_skeleton]; unfold onBufs k0_part17_skel
  simp only [Prog.lift, Prog.bind_op, Prog.bind_ret, Prog.pure_eq_ret]
  unfold vany
  iintro ⟨⟨#HR, #Hlev⟩, HO, Hs2, ⟨%fr, Hr⟩, ⟨Ht, Htp⟩, Hout⟩ Hk
  ihave Hs := (share_eq c cw2 fullShare (cwG m c)).1 $$ Hs2
  icases Hs with ⟨Ha, Hb⟩
  iapply (send_step m K c _ 14 9 20 2 (dev15_eq c) rfl rfl (src := cw2) (dst := cw3) rfl rfl rfl qL (cwG m c) fr (BI.Entails.refl _)
      (hop_pay_cw m c 2 (by decide) _ _ fr)) $$ [Ha Hr HO Ht Htp]
  · isplitr; · iexact HR
    isplitl [Ha]; · iexact Ha
    isplitl [Hr]; · iexact Hr
    isplitl [HO]; · iexact HO
    isplitl [Ht]; · iexact Ht
    iexact Htp
  iintro ⟨Hc9, HO⟩
  iapply (ld_step c cwM (cw2 : Memref sig .tc .vmem S256x2048 .bf16).view.set (rcw 2 inb_S4x256x2048_S1x256x2048_2_0_0).toLoadRect (slot_cw 2 _) qR (cwG m c)) $$ Hb; iintro Hb
  iapply (out_step m c l (256 * blk (ccw^[2 + 1] c)) 256 (off14_eq c 2) (k0_off14_inb c 2)
      (k0_pay13 (cwM.view.readAt (Elt F) (rcw 2 inb_S4x256x2048_S1x256x2048_2_0_0).toLoadRect (cwG m c))) (hop_cw m c 2 (off14_eq c 2) _ _)) $$ Hout; iintro Hout
  iapply run_ret
  iapply Hk
  isplitl [HO]; · iexact HO
  isplitl [Hc9]; · iexact Hc9
  isplitl [Hb]; · iexact Hb
  iexact Hout

set_option maxHeartbeats 400000 in
/-- The third backward block stored; the end of the last send waited for. -/
theorem part18_run (c : Dev nD) (l : List (ℕ × ℕ)) (v8 v25 v28 v522 : BitVec 32) {Q : PUnit → sProp 𝕄} :
    iprop(env m K ∗ ow (F := F) c 15 ∗ vpts c ccw2 fullShare (ccwG m c) ∗ rcv (F := F) c 9 ∗ vpts c cw2 qR (cwG m c) ∗ outAt m c l)
      ⊢ iprop(((ow (F := F) c 15 ∗ done (F := F) c 9 ∗ vpts c ccw2 fullShare (ccwG m c) ∗ vpts c cw2 fullShare (cwG m c) ∗ outAt m c ((256 * blk (cw^[2 + 1] c), 256) :: l)) -∗ Q ⟨⟩)
          -∗ run c (onBufs (k0_part18 (F := F)) c v8 v25 v28 v522) Q) := by
  rw [k0_part18_eq_skeleton]; unfold onBufs k0_part18_skel
  simp only [Prog.lift, Prog.bind_op, Prog.bind_ret, Prog.pure_eq_ret]
  iintro ⟨⟨#HR, #Hlev⟩, HO, Hl2, ⟨Hc9, Hat9⟩, Hb, Hout⟩ Hk
  iapply (ld_step c ccwM (ccw2 : Memref sig .tc .vmem S256x2048 .bf16).view.set (rccw 2 inb_S3x256x2048_S1x256x2048_2_0_0).toLoadRect (slot_ccw 2 _) fullShare (ccwG m c)) $$ Hl2; iintro Hl2
  iapply (out_step m c l (256 * blk (cw^[2 + 1] c)) 256 (off15_eq c 2) (k0_off15_inb c 2)
      (k0_pay14 (ccwM.view.readAt (Elt F) (rccw 2 inb_S3x256x2048_S1x256x2048_2_0_0).toLoadRect (ccwG m c))) (hop_ccw m c 2 (off15_eq c 2) _ _)) $$ Hout; iintro Hout
  iapply (wait_dma m K c 15 9 (by decide) cw3 cw2 rfl rfl (P := vpts c cw2 qL (cwG m c)) rfl) $$ [HO Hc9 Hat9]
  · isplitr; · iexact HR
    isplitr; · iexact Hlev
    isplitl [Hc9]; · iexact Hc9
    isplitl [Hat9]; · iexact Hat9
    iexact HO
  iintro ⟨HO, Hd9, Ha⟩
  ihave Hs2 := (share_eq c cw2 fullShare (cwG m c)).2 $$ [Ha Hb]
  · isplitl [Ha] <;> iassumption
  iapply run_ret
  iapply Hk
  isplitl [HO]; · iexact HO
  isplitl [Hd9]; · iexact Hd9
  isplitl [Hl2]; · iexact Hl2
  isplitl [Hs2]; · iexact Hs2
  iexact Hout

end Cert.KernelIdeal.Cube
-- ==== Proof.KernelIdeal.Whole.lean ====
/- The whole body of the kernel on one device: the parts in order, from what the device starts with to
   what it ends with. -/
module

public import proofs.«01_k».proof.Proof.KernelIdeal.Body3

@[expose] public section

noncomputable section

namespace Cert.KernelIdeal.Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 24 → ℕ)

/-! ## Slots -/

theorem mem_cwSlot (h : ℕ) (i : S4x256x2048.Idx) : i ∈ cwSlot h ↔ (i 0 : Fin 4).val = h := by
  rw [cwSlot, Finset.mem_filter]
  constructor
  · rintro ⟨-, h1⟩; omega
  · intro h1; exact ⟨Finset.mem_univ _, by omega⟩
theorem mem_ccwSlot (h : ℕ) (i : S3x256x2048.Idx) : i ∈ ccwSlot h ↔ (i 0 : Fin 3).val = h := by
  rw [ccwSlot, Finset.mem_filter]
  constructor
  · rintro ⟨-, h1⟩; omega
  · intro h1; exact ⟨Finset.mem_univ _, by omega⟩

/-- The buffer for the forward hops is its four slots. -/
theorem cw_split (c : Dev nD) (q : PosShare TreeShare) (f : cwM.view.ty.Contents (Elt F)) :
    (vpts c cwM q f : sProp 𝕄) ⊣⊢ iprop(vpts c cw0 q f ∗ vpts c cw1 q f ∗ vpts c cw2 q f ∗ vpts c cw3 q f) := by
  have e : cwM.view.set = cw0.view.set ∪ (cw1.view.set ∪ (cw2.view.set ∪ cw3.view.set)) := by
    rw [set_cwS, set_cwS, set_cwS, set_cwS, show cwM.view.set = Finset.univ from View.set_whole cc0_scratch6]
    ext i
    have hi : (i 0 : Fin 4).val < 4 := (i 0 : Fin 4).isLt
    rw [Finset.mem_union, Finset.mem_union, Finset.mem_union, mem_cwSlot, mem_cwSlot, mem_cwSlot, mem_cwSlot]
    exact ⟨fun _ => by omega, fun _ => Finset.mem_univ _⟩
  have d (a b hh hh') (hab : a ≠ b) : Disjoint (cwS a hh).view.set (cwS b hh').view.set := by
    rw [set_cwS, set_cwS, Finset.disjoint_left]
    intro i h1 h2
    rw [mem_cwSlot] at h1 h2
    omega
  show (cwM.view.loc (c : Thread nD τ) ↦[cwM.view.set]{q} f : sProp 𝕄) ⊣⊢ _
  rw [e]
  refine (pointsTo_union (Finset.disjoint_union_right.mpr ⟨d _ _ _ _ (by decide), Finset.disjoint_union_right.mpr ⟨d _ _ _ _ (by decide), d _ _ _ _ (by decide)⟩⟩)).trans (sep_congr_right ?_)
  refine (pointsTo_union (Finset.disjoint_union_right.mpr ⟨d _ _ _ _ (by decide), d _ _ _ _ (by decide)⟩)).trans (sep_congr_right ?_)
  exact pointsTo_union (d _ _ _ _ (by decide))

/-- The buffer for the backward hops is its three slots. -/
theorem ccw_split (c : Dev nD) (q : PosShare TreeShare) (f : ccwM.view.ty.Contents (Elt F)) :
    (vpts c ccwM q f : sProp 𝕄) ⊣⊢ iprop(vpts c ccw0 q f ∗ vpts c ccw1 q f ∗ vpts c ccw2 q f) := by
  have e : ccwM.view.set = ccw0.view.set ∪ (ccw1.view.set ∪ ccw2.view.set) := by
    rw [set_ccwS, set_ccwS, set_ccwS, show ccwM.view.set = Finset.univ from View.set_whole cc0_scratch7]
    ext i
    have hi : (i 0 : Fin 3).val < 3 := (i 0 : Fin 3).isLt
    rw [Finset.mem_union, Finset.mem_union, mem_ccwSlot, mem_ccwSlot, mem_ccwSlot]
    exact ⟨fun _ => by omega, fun _ => Finset.mem_univ _⟩
  have d (a b hh hh') (hab : a ≠ b) : Disjoint (ccwS a hh).view.set (ccwS b hh').view.set := by
    rw [set_ccwS, set_ccwS, Finset.disjoint_left]
    intro i h1 h2
    rw [mem_ccwSlot] at h1 h2
    omega
  show (ccwM.view.loc (c : Thread nD τ) ↦[ccwM.view.set]{q} f : sProp 𝕄) ⊣⊢ _
  rw [e]
  refine (pointsTo_union (Finset.disjoint_union_right.mpr ⟨d _ _ _ _ (by decide), d _ _ _ _ (by decide)⟩)).trans (sep_congr_right ?_)
  exact pointsTo_union (d _ _ _ _ (by decide))

theorem any_intro (c : Dev nD) {sp : Space} {s : Shape} {e : EltTy} (M : Memref sig .tc sp s e) (f : M.view.ty.Contents (Elt F)) :
    (vpts c M fullShare f : sProp 𝕄) ⊢ vany c M := by
  unfold vany
  iintro H
  iexists f
  iexact H

theorem cw_split_any (c : Dev nD) :
    (vany (F := F) c cwM : sProp 𝕄) ⊢ iprop(vany c cw0 ∗ vany c cw1 ∗ vany c cw2 ∗ vany c cw3) := by
  have h (f) : (vpts c cwM fullShare f : sProp 𝕄) ⊢ iprop(vany c cw0 ∗ vany c cw1 ∗ vany c cw2 ∗ vany c cw3) :=
    (cw_split c fullShare f).1.trans (BI.sep_mono (any_intro c cw0 f) (BI.sep_mono (any_intro c cw1 f) (BI.sep_mono (any_intro c cw2 f) (any_intro c cw3 f))))
  iintro H
  unfold vany
  icases H with ⟨%f, H⟩
  ihave H := (h f) $$ H
  unfold vany
  iexact H

theorem ccw_split_any (c : Dev nD) :
    (vany (F := F) c ccwM : sProp 𝕄) ⊢ iprop(vany c ccw0 ∗ vany c ccw1 ∗ vany c ccw2) := by
  have h (f) : (vpts c ccwM fullShare f : sProp 𝕄) ⊢ iprop(vany c ccw0 ∗ vany c ccw1 ∗ vany c ccw2) :=
    (ccw_split c fullShare f).1.trans (BI.sep_mono (any_intro c ccw0 f) (BI.sep_mono (any_intro c ccw1 f) (any_intro c ccw2 f)))
  iintro H
  unfold vany
  icases H with ⟨%f, H⟩
  ihave H := (h f) $$ H
  unfold vany
  iexact H

/-- The buffer of the normalised block: the device's own quarter, the rest of its half, the other half. -/
theorem blk_split_any (c : Dev nD) :
    (vany (F := F) c blkM : sProp 𝕄) ⊢ iprop(vany c (blkQ c) ∗ vany c (blkQ (zB c)) ∗ vany c (blkH (zA c))) := by
  have h (f) : (vpts c blkM fullShare f : sProp 𝕄) ⊢ iprop(vany c (blkQ c) ∗ vany c (blkQ (zB c)) ∗ vany c (blkH (zA c))) :=
    ((full_eq c fullShare f).1.trans (BI.sep_mono ((half_eq c fullShare f).1.trans (BI.sep_mono (any_intro c (blkQ c) f) (any_intro c (blkQ (zB c)) f))) (any_intro c (blkH (zA c)) f))).trans sep_assoc.1
  iintro H
  unfold vany
  icases H with ⟨%f, H⟩
  ihave H := (h f) $$ H
  unfold vany
  iexact H

theorem resW_sub (c : Dev nD) : (resW c).view.set ⊆ resM.view.set := View.set_slice_subset _ _

/-- The residual: the rows the device takes, and the rest. -/
theorem res_split (c : Dev nD) (q : PosShare TreeShare) (f : resM.view.ty.Contents (Elt F)) :
    (vpts c resM q f : sProp 𝕄) ⊣⊢ iprop(vpts c (resW c) q f ∗ resM.view.loc (c : Thread nD τ) ↦[resM.view.set \ (resW c).view.set]{q} f) :=
  pointsTo_split_subset (resW_sub c)

/-! ## What the device starts with and ends with -/

def posts (c : Dev nD) : sProp 𝕄 := bigSep Finset.univ fun k : Fin 24 => at0 (F := F) c k
def closed (c : Dev nD) : sProp 𝕄 := bigSep Finset.univ fun k : Fin 24 => done (F := F) c k
/-- The tokens of the device's own transfers' ends, -/
def ownToks (c : Dev nD) : sProp 𝕄 := bigSepL [1, 2, 3, 4, 5, 6, 7, 8, 9, 10, 11, 12] fun k : Fin 24 => tok (F := F) c k 0
/-- of the raises it makes at its partners, -/
def peerToks (c : Dev nD) : sProp 𝕄 := bigSepL raises fun e => tok (F := F) (peer e.2.1 c) e.1 e.2.2
/-- and the credit for the raises its partners make at it. -/
def credits (c : Dev nD) : sProp 𝕄 := bigSepL raises fun e => crd (F := F) c e.1 (amt e.1)
def scratch (c : Dev nD) : sProp 𝕄 :=
  iprop(vany (F := F) c blkM ∗ vany (F := F) c a1sM ∗ vany (F := F) c a1rM ∗ vany (F := F) c accM ∗ vany (F := F) c a2rM ∗ vany (F := F) c rcM
    ∗ vany (F := F) c cwM ∗ vany (F := F) c ccwM)

theorem bigSep_fin24 (Φ : Fin 24 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23) :=
  bigSep_univ_eq_bigSepL [0, 1, 2, 3, 4, 5, 6, 7, 8, 9, 10, 11, 12, 13, 14, 15, 16, 17, 18, 19, 20, 21, 22, 23] (by decide) (by decide) Φ

theorem ownToks_eq (c : Dev nD) : ownToks (F := F) c
    = iprop(tok (F := F) c 1 0 ∗ tok (F := F) c 2 0 ∗ tok (F := F) c 3 0 ∗ tok (F := F) c 4 0 ∗ tok (F := F) c 5 0 ∗ tok (F := F) c 6 0 ∗ tok (F := F) c 7 0 ∗ tok (F := F) c 8 0 ∗ tok (F := F) c 9 0 ∗ tok (F := F) c 10 0 ∗ tok (F := F) c 11 0 ∗ tok (F := F) c 12 0) := rfl

theorem peerToks_eq (c : Dev nD) : peerToks (F := F) c
    = iprop(tok (F := F) (zA c) 0 0 ∗ tok (F := F) (zB c) 0 1 ∗ tok (F := F) (cw c) 0 3 ∗ tok (F := F) (ccw c) 0 2
      ∗ tok (F := F) (zA c) 13 0 ∗ tok (F := F) (zB c) 14 0 ∗ tok (F := F) (zB c) 15 0 ∗ tok (F := F) (zA c) 16 0
      ∗ tok (F := F) (cw c) 17 0 ∗ tok (F := F) (ccw c) 21 0 ∗ tok (F := F) (cw c) 18 0 ∗ tok (F := F) (ccw c) 22 0
      ∗ tok (F := F) (cw c) 19 0 ∗ tok (F := F) (ccw c) 23 0 ∗ tok (F := F) (cw c) 20 0) := rfl

/-- The four units of the barrier together, and each transfer's size. -/
theorem credits_eq (c : Dev nD) : credits (F := F) c
    ⊢ iprop(crd (F := F) c 0 (units 0)
      ∗ crd (F := F) c 13 (units 13) ∗ crd (F := F) c 14 (units 14) ∗ crd (F := F) c 15 (units 15) ∗ crd (F := F) c 16 (units 16)
      ∗ crd (F := F) c 17 (units 17) ∗ crd (F := F) c 21 (units 21) ∗ crd (F := F) c 18 (units 18) ∗ crd (F := F) c 22 (units 22)
      ∗ crd (F := F) c 19 (units 19) ∗ crd (F := F) c 23 (units 23) ∗ crd (F := F) c 20 (units 20)) := by
  have h4 : iprop(crd (F := F) c 0 1 ∗ crd (F := F) c 0 1 ∗ crd (F := F) c 0 1 ∗ crd (F := F) c 0 1) ⊢ crd (F := F) c 0 (units 0) := by
    have e : tallyAt (kcell (c, 0)) () (units 0) = tallyAt (kcell (c, 0)) () 1 + (tallyAt (kcell (c, 0)) () 1 + (tallyAt (kcell (c, 0)) () 1 + tallyAt (kcell (c, 0)) () 1)) := by
      show tallyAt (kcell (c, 0)) () (1 + (1 + (1 + 1))) = _
      rw [tallyAt_add, tallyAt_add, tallyAt_add]
    unfold crd
    rw [e]
    exact (sep_mono_right ((sep_mono_right (cred_add _ _).2).trans (cred_add _ _).2)).trans (cred_add _ _).2
  rw [show credits (F := F) c = iprop(crd (F := F) c 0 1 ∗ crd (F := F) c 0 1 ∗ crd (F := F) c 0 1 ∗ crd (F := F) c 0 1
      ∗ crd (F := F) c 13 (units 13) ∗ crd (F := F) c 14 (units 14) ∗ crd (F := F) c 15 (units 15) ∗ crd (F := F) c 16 (units 16)
      ∗ crd (F := F) c 17 (units 17) ∗ crd (F := F) c 21 (units 21) ∗ crd (F := F) c 18 (units 18) ∗ crd (F := F) c 22 (units 22)
      ∗ crd (F := F) c 19 (units 19) ∗ crd (F := F) c 23 (units 23) ∗ crd (F := F) c 20 (units 20)) from rfl]
  iintro ⟨H1, H2, H3, H4, H⟩
  isplitl [H1 H2 H3 H4]
  · iapply h4
    isplitl [H1]; · iexact H1
    isplitl [H2]; · iexact H2
    isplitl [H3] <;> iassumption
  iexact H

/-! ## The body -/

theorem run_bind (c : Dev nD) {α β : Type} (p : Prog (TpuEff nD τ sig (Elt F) Λ₀ .tc) β) (k : β → Prog (TpuEff nD τ sig (Elt F) Λ₀ .tc) α) (Q : α → sProp 𝕄) :
    run c p (fun a => run c (k a) Q) ⊢ run c (p >>= k) Q := by
  unfold run
  rw [wp_bind]

/-- The first part computes words from the device's number. -/
theorem part1_run (c : Dev nD) (Q) :
    iprop(∀ (w1 w2 w3 w4 w5 w6 w7 w8 w9 w10 w11 : BitVec 32) (w12 : BitVec 1) (w13 w14 : BitVec 32), Q ⟨c, w1, w2, w3, w4, w5, w6, w7, w8, w9, w10, w11, w12, w13, w14⟩)
      ⊢ run c (onBufs (k0_part1 (F := F))) Q := by
  rw [k0_part1_eq_skeleton]; unfold onBufs k0_part1_skel
  simp only [Prog.lift, Prog.bind_op, Prog.bind_ret, Prog.pure_eq_ret]
  unfold run
  rw [wp_deviceId]
  iintro H
  iapply (run_ret c)
  iapply H

/-- The last block's rows are the result's last rows: every row is final. -/
theorem rows_done : ∀ (c : Dev nD) (t : Fin 32), ∃ p ∈ [(256 * blk (ccw^[3 + 1] c), 256), (256 * blk (cw^[2 + 1] c), 256), (256 * blk (ccw^[2 + 1] c), 256),
      (256 * blk (cw^[1 + 1] c), 256), (256 * blk (ccw^[1 + 1] c), 256), (256 * blk (cw^[0 + 1] c), 256), (256 * blk (ccw^[0 + 1] c), 256),
      (256 * blk c + 128 * hf (zA c), 128), (256 * blk c + own (zB c), 64), (256 * blk c + own c, 64)], p.1 ≤ 64 * t.val ∧ 64 * t.val + 64 ≤ p.1 + p.2 := by
  decide +kernel

theorem out_done (c : Dev nD) (l : List (ℕ × ℕ)) (h : ∀ t : Fin 32, ∃ p ∈ l, p.1 ≤ 64 * t.val ∧ 64 * t.val + 64 ≤ p.1 + p.2) :
    outAt m c l ⊢ vpts c oM fullShare (outG m c) := by
  unfold outAt
  iintro ⟨%f, %hf, H⟩
  have e : f = outG m c := funext fun i => by
    have hi : (i 0 : Fin 2048).val < 2048 := (i 0 : Fin 2048).isLt
    obtain ⟨p, hp, h1, h2⟩ := h ⟨(i 0 : Fin 2048).val / 64, by omega⟩
    dsimp only at h1 h2
    exact hf p hp i (by omega) (by omega)
  subst e
  iexact H

set_option maxHeartbeats 1600000 in
/-- The body on device `c`. -/
theorem body_run (c : Dev nD) (Q : PUnit → sProp 𝕄) :
    iprop(env m K ∗ ow (F := F) c 0 ∗ posts (F := F) c ∗ peerToks (F := F) c ∗ ownToks (F := F) c ∗ credits (F := F) c ∗ scratch (F := F) c
        ∗ vpts c resM fullShare (m ((c : Thread nD τ).loc main_arg1)) ∗ vpts c xM fullShare (xs m c) ∗ vpts c gM fullShare (gs m c) ∗ outAt m c [])
      ⊢ iprop(((ow (F := F) c 15 ∗ closed (F := F) c ∗ scratch (F := F) c ∗ vpts c resM fullShare (m ((c : Thread nD τ).loc main_arg1))
            ∗ vpts c xM fullShare (xs m c) ∗ vpts c gM fullShare (gs m c) ∗ vpts c oM fullShare (outG m c)) -∗ Q ⟨⟩)
          -∗ run c (onBufs (cc0_body (F := F))) Q) := by
  rw [cc0_body_eq_skeleton, peerToks_eq, ownToks_eq]
  unfold posts closed scratch onBufs cc0_body_skel
  rw [bigSep_fin24, bigSep_fin24]
  iintro ⟨⟨#HR, #Hlev⟩, HO, ⟨A0, A1, A2, A3, A4, A5, A6, A7, A8, A9, A10, A11, A12, A13, A14, A15, A16, A17, A18, A19, A20, A21, A22, A23⟩,
    ⟨T0, T1, T2, T3, T13, T14, T15, T16, T17, T21, T18, T22, T19, T23, T20⟩, ⟨O1, O2, O3, O4, O5, O6, O7, O8, O9, O10, O11, O12⟩, Hcr,
    ⟨S0, S1, S2, S3, S4, S5, S6, S7⟩, Hres, Hx, Hg, Hout⟩ Hk
  ihave Hcr := (credits_eq (F := F) c) $$ Hcr
  icases Hcr with ⟨C0, C13, C14, C15, C16, C17, C21, C18, C22, C19, C23, C20⟩
  ihave Hs := (blk_split_any (F := F) c) $$ S0
  icases Hs with ⟨Bown, Bq, Bz⟩
  ihave Hs := (res_split c fullShare (m ((c : Thread nD τ).loc main_arg1))).1 $$ Hres
  icases Hs with ⟨Hres, Hrest⟩
  iapply (run_bind c)
  iapply (part1_run c)
  iintro %w1 %w2 %w3 %w4 %w5 %w6 %w7 %w8 %w9 %w10 %w11 %w12 %w13 %w14
  iapply (run_bind c)
  iapply (part2_run m K c _ _ _ _ _ _ _ _ _) $$ [HO T0 T1 T2 T3 S2 Bz S4 Bq S7 S6]
  · isplitr
    · isplitr; · iexact HR
      iexact Hlev
    isplitl [HO]; · iexact HO
    isplitl [T0]; · iexact T0
    isplitl [T1]; · iexact T1
    isplitl [T2]; · iexact T2
    isplitl [T3]; · iexact T3
    isplitl [S2]; · iexact S2
    isplitl [Bz]; · iexact Bz
    isplitl [S4]; · iexact S4
    isplitl [Bq]; · iexact Bq
    isplitl [S7]; · iexact S7
    iexact S6
  iintro %a2 %b2 HO
  iapply (run_bind c)
  iapply (part3_run m K c _ _ _ _ _) $$ [HO C0 A0 Hres S5 O1 Hx S1 O2 T13 A2]
  · isplitr
    · isplitr; · iexact HR
      iexact Hlev
    isplitl [HO]; · iexact HO
    isplitl [C0 A0]
    · isplitl [C0]; · iexact C0
      iexact A0
    isplitl [Hres]; · iexact Hres
    isplitl [S5]; · iexact S5
    isplitl [O1]; · iexact O1
    isplitl [Hx]; · iexact Hx
    isplitl [S1]; · iexact S1
    isplitl [O2]; · iexact O2
    isplitl [T13]; · iexact T13
    iexact A2
  iintro ⟨HO, D0, PzB, ⟨PzA, PzQ⟩, Pcw, Pccw, C1, Hx, S1, D2⟩
  iapply (run_bind c)
  iapply (part4_run m K c _ _ _ _ _ _) $$ [HO C13 A13 Hx S3 PzA O3 T14 A3]
  · isplitr
    · isplitr; · iexact HR
      iexact Hlev
    isplitl [HO]; · iexact HO
    isplitl [C13 A13]
    · isplitl [C13]; · iexact C13
      iexact A13
    isplitl [Hx]; · iexact Hx
    isplitl [S3]; · iexact S3
    isplitl [PzA]; · iexact PzA
    isplitl [O3]; · iexact O3
    isplitl [T14]; · iexact T14
    iexact A3
  iintro %r4 ⟨HO, D13, D3, Hx, S2, S3⟩
  obtain ⟨r4, r4'⟩ := r4
  iapply (run_bind c)
  iapply (part5_run m K c _ _ _ _ _) $$ [HO C14 A14 C1 A1 S3 Hg Bown]
  · isplitr
    · isplitr; · iexact HR
      iexact Hlev
    isplitl [HO]; · iexact HO
    isplitl [C14 A14]
    · isplitl [C14]; · iexact C14
      iexact A14
    isplitl [C1 A1]
    · isplitl [C1]; · iexact C1
      iexact A1
    isplitl [S3]; · iexact S3
    isplitl [Hg]; · iexact Hg
    iexact Bown
  iintro %b5 ⟨HO, D14, D1, S3, Hg, S4, S5, Hres, Hb⟩
  iapply (run_bind c)
  iapply (part6_run m K c _ _ _ _ _ _ _) $$ [HO Hb PzQ O4 T15 A4 C15 A15 Hout]
  · isplitr
    · isplitr; · iexact HR
      iexact Hlev
    isplitl [HO]; · iexact HO
    isplitl [Hb]; · iexact Hb
    isplitl [PzQ]; · iexact PzQ
    isplitl [O4 T15 A4]
    · isplitl [O4]; · iexact O4
      isplitl [T15]; · iexact T15
      iexact A4
    isplitl [C15 A15]
    · isplitl [C15]; · iexact C15
      iexact A15
    iexact Hout
  iintro %b6 ⟨HO, D4, D15, Hb, Hout⟩
  iapply (run_bind c)
  iapply (part7_run m K c _ _ _ _ _ _ _ _) $$ [HO Hb PzB O5 T16 A5 Hout]
  · isplitr
    · isplitr; · iexact HR
      iexact Hlev
    isplitl [HO]; · iexact HO
    isplitl [Hb]; · iexact Hb
    isplitl [PzB]; · iexact PzB
    isplitl [O5 T16 A5]
    · isplitl [O5]; · iexact O5
      isplitl [T16]; · iexact T16
      iexact A5
    iexact Hout
  iintro %b7 ⟨HO, D5, Hb, Hout⟩
  obtain ⟨b7, b7', b7''⟩ := b7
  ihave Hs := (cw_split_any (F := F) (cw c)) $$ Pcw
  icases Hs with ⟨Pcw0, Pcw1, Pcw2, Pcw3⟩
  ihave Hs := (ccw_split_any (F := F) (ccw c)) $$ Pccw
  icases Hs with ⟨Pccw0, Pccw1, Pccw2⟩
  iapply (run_bind c)
  iapply (part8_run m K c _ _ _ _ _ _ _ _ _ _) $$ [HO C16 A16 Hb Pcw0 Pccw0 O6 T17 O10 T21]
  · isplitr
    · isplitr; · iexact HR
      iexact Hlev
    isplitl [HO]; · iexact HO
    isplitl [C16 A16]
    · isplitl [C16]; · iexact C16
      iexact A16
    isplitl [Hb]; · iexact Hb
    isplitl [Pcw0]; · iexact Pcw0
    isplitl [Pccw0]; · iexact Pccw0
    isplitl [O6 T17]
    · isplitl [O6]; · iexact O6
      iexact T17
    isplitl [O10]; · iexact O10
    iexact T21
  iintro %b8 ⟨HO, D16, C6, C10, Hb⟩
  iapply (run_bind c)
  iapply (part9_run m K c _ _ _ _ _ _ _) $$ [HO Hb C6 A6 C17 A17 C10 A10 Hout]
  · isplitr
    · isplitr; · iexact HR
      iexact Hlev
    isplitl [HO]; · iexact HO
    isplitl [Hb]; · iexact Hb
    isplitl [C6 A6]
    · isplitl [C6]; · iexact C6
      iexact A6
    isplitl [C17 A17]
    · isplitl [C17]; · iexact C17
      iexact A17
    isplitl [C10 A10]
    · isplitl [C10]; · iexact C10
      iexact A10
    iexact Hout
  iintro ⟨HO, D6, D17, D10, Hb, W0, Hout⟩
  iapply (run_bind c)
  iapply (part10_run m K c _ _ _ _ _) $$ [HO C21 A21 W0 Pcw1 O7 T18]
  · isplitr
    · isplitr; · iexact HR
      iexact Hlev
    isplitl [HO]; · iexact HO
    isplitl [C21 A21]
    · isplitl [C21]; · iexact C21
      iexact A21
    isplitl [W0]; · iexact W0
    isplitl [Pcw1]; · iexact Pcw1
    isplitl [O7]; · iexact O7
    iexact T18
  iintro ⟨HO, D21, V0, C7, W0⟩
  iapply (run_bind c)
  iapply (part11_run m K c _ _) $$ [HO V0 Pccw1 O11 T22 W0 Hout]
  · isplitr
    · isplitr; · iexact HR
      iexact Hlev
    isplitl [HO]; · iexact HO
    isplitl [V0]; · iexact V0
    isplitl [Pccw1]; · iexact Pccw1
    isplitl [O11 T22]
    · isplitl [O11]; · iexact O11
      iexact T22
    isplitl [W0]; · iexact W0
    iexact Hout
  iintro %a11 %b11 %d11 ⟨HO, C11, V0, W0, Hout⟩
  iapply (run_bind c)
  iapply (part12_run m K c _ _ _ _ _ _ _) $$ [HO C7 A7 C18 A18 W0 Hout]
  · isplitr
    · isplitr; · iexact HR
      iexact Hlev
    isplitl [HO]; · iexact HO
    isplitl [C7 A7]
    · isplitl [C7]; · iexact C7
      iexact A7
    isplitl [C18 A18]
    · isplitl [C18]; · iexact C18
      iexact A18
    isplitl [W0]; · iexact W0
    iexact Hout
  iintro ⟨HO, D7, D18, W0, W1, Hout⟩
  iapply (run_bind c)
  iapply (part13_run m K c _ _ _ _ _) $$ [HO C11 A11 C22 A22 V0]
  · isplitr
    · isplitr; · iexact HR
      iexact Hlev
    isplitl [HO]; · iexact HO
    isplitl [C11 A11]
    · isplitl [C11]; · iexact C11
      iexact A11
    isplitl [C22 A22]
    · isplitl [C22]; · iexact C22
      iexact A22
    iexact V0
  iintro ⟨HO, D11, D22, V0, V1⟩
  iapply (run_bind c)
  iapply (part14_run m K c _ _ _ _ _) $$ [HO W1 Pcw2 O8 T19 V1 Pccw2 O12 T23 Hout]
  · isplitr
    · isplitr; · iexact HR
      iexact Hlev
    isplitl [HO]; · iexact HO
    isplitl [W1]; · iexact W1
    isplitl [Pcw2]; · iexact Pcw2
    isplitl [O8 T19]
    · isplitl [O8]; · iexact O8
      iexact T19
    isplitl [V1]; · iexact V1
    isplitl [Pccw2]; · iexact Pccw2
    isplitl [O12 T23]
    · isplitl [O12]; · iexact O12
      iexact T23
    iexact Hout
  iintro ⟨HO, C8, C12, W1, V1, Hout⟩
  iapply (run_bind c)
  iapply (part15_run m K c _ _ _ _ _) $$ [HO V1 C8 A8 W1 Hout]
  · isplitr
    · isplitr; · iexact HR
      iexact Hlev
    isplitl [HO]; · iexact HO
    isplitl [V1]; · iexact V1
    isplitl [C8 A8]
    · isplitl [C8]; · iexact C8
      iexact A8
    isplitl [W1]; · iexact W1
    iexact Hout
  iintro %b15 ⟨HO, D8, V1, W1, Hout⟩
  obtain ⟨b15, b15'⟩ := b15
  iapply (run_bind c)
  iapply (part16_run m K c _ _ _ _ _ _) $$ [HO C19 A19 C12 A12 C23 A23 V1]
  · isplitr
    · isplitr; · iexact HR
      iexact Hlev
    isplitl [HO]; · iexact HO
    isplitl [C19 A19]
    · isplitl [C19]; · iexact C19
      iexact A19
    isplitl [C12 A12]
    · isplitl [C12]; · iexact C12
      iexact A12
    isplitl [C23 A23]
    · isplitl [C23]; · iexact C23
      iexact A23
    iexact V1
  iintro %b16 ⟨HO, D19, D12, D23, W2, V1, V2⟩
  obtain ⟨b16, b16'⟩ := b16
  iapply (run_bind c)
  iapply (part17_run m K c _ _ _ _ _ _) $$ [HO W2 Pcw3 O9 T20 Hout]
  · isplitr
    · isplitr; · iexact HR
      iexact Hlev
    isplitl [HO]; · iexact HO
    isplitl [W2]; · iexact W2
    isplitl [Pcw3]; · iexact Pcw3
    isplitl [O9 T20]
    · isplitl [O9]; · iexact O9
      iexact T20
    iexact Hout
  iintro %b17 ⟨HO, C9, W2, Hout⟩
  iapply (run_bind c)
  iapply (part18_run m K c _ _ _ _ _) $$ [HO V2 C9 A9 W2 Hout]
  · isplitr
    · isplitr; · iexact HR
      iexact Hlev
    isplitl [HO]; · iexact HO
    isplitl [V2]; · iexact V2
    isplitl [C9 A9]
    · isplitl [C9]; · iexact C9
      iexact A9
    isplitl [W2]; · iexact W2
    iexact Hout
  iintro ⟨HO, D9, V2, W2, Hout⟩
  simp only [Prog.lift, Prog.bind_op, Prog.bind_ret, Prog.pure_eq_ret]
  iapply (wait_dma m K c 15 20 (by decide) cw2 cw3 rfl rfl (P := vpts c cw3 fullShare (cwG m c)) rfl) $$ [HO C20 A20]
  · isplitr; · iexact HR
    isplitr; · iexact Hlev
    isplitl [C20]; · iexact C20
    isplitl [A20]; · iexact A20
    iexact HO
  iintro ⟨HO, D20, W3⟩
  iapply (ld_step c cwM cw3.view.set (rcw 3 inb_S4x256x2048_S1x256x2048_3_0_0).toLoadRect (slot_cw 3 _) fullShare (cwG m c)) $$ W3; iintro W3
  iapply (out_step m c _ (256 * blk (ccw^[3 + 1] c)) 256 (off14_eq c 3) (k0_off14_inb c 3)
      (k0_pay1 (cwM.view.readAt (Elt F) (rcw 3 inb_S4x256x2048_S1x256x2048_3_0_0).toLoadRect (cwG m c))) (hop_cw m c 3 (off14_eq c 3) _ _)) $$ Hout; iintro Hout
  ihave Hout := (out_done m c _ (rows_done c)) $$ Hout
  ihave Hres := (res_split c fullShare (m ((c : Thread nD τ).loc main_arg1))).2 $$ [Hres Hrest]
  · isplitl [Hres] <;> iassumption
  ihave W := (cw_split c fullShare (cwG m c)).2 $$ [W0 W1 W2 W3]
  · isplitl [W0]; · iexact W0
    isplitl [W1]; · iexact W1
    isplitl [W2] <;> iassumption
  ihave V := (ccw_split c fullShare (ccwG m c)).2 $$ [V0 V1 V2]
  · isplitl [V0]; · iexact V0
    isplitl [V1] <;> iassumption
  iapply run_ret
  iapply Hk
  isplitl [HO]; · iexact HO
  isplitl [D0 D1 D2 D3 D4 D5 D6 D7 D8 D9 D10 D11 D12 D13 D14 D15 D16 D17 D18 D19 D20 D21 D22 D23]
  · isplitl [D0]; · iexact D0
    isplitl [D1]; · iexact D1
    isplitl [D2]; · iexact D2
    isplitl [D3]; · iexact D3
    isplitl [D4]; · iexact D4
    isplitl [D5]; · iexact D5
    isplitl [D6]; · iexact D6
    isplitl [D7]; · iexact D7
    isplitl [D8]; · iexact D8
    isplitl [D9]; · iexact D9
    isplitl [D10]; · iexact D10
    isplitl [D11]; · iexact D11
    isplitl [D12]; · iexact D12
    isplitl [D13]; · iexact D13
    isplitl [D14]; · iexact D14
    isplitl [D15]; · iexact D15
    isplitl [D16]; · iexact D16
    isplitl [D17]; · iexact D17
    isplitl [D18]; · iexact D18
    isplitl [D19]; · iexact D19
    isplitl [D20]; · iexact D20
    isplitl [D21]; · iexact D21
    isplitl [D22]; · iexact D22
    iexact D23
  isplitl [Hb S1 S2 S3 S4 S5 W V]
  · isplitl [Hb]; · iapply (any_intro c blkM _); iexact Hb
    isplitl [S1]; · iapply (any_intro c a1sM _); iexact S1
    isplitl [S2]; · iapply (any_intro c a1rM _); iexact S2
    isplitl [S3]; · iapply (any_intro c accM _); iexact S3
    isplitl [S4]; · iapply (any_intro c a2rM _); iexact S4
    isplitl [S5]; · iapply (any_intro c rcM _); iexact S5
    isplitl [W]; · iapply (any_intro c cwM _); iexact W
    iapply (any_intro c ccwM _); iexact V
  isplitl [Hres]; · iexact Hres
  isplitl [Hx]; · iexact Hx
  isplitl [Hg]; · iexact Hg
  iexact Hout

end Cert.KernelIdeal.Cube
-- ==== Proof.KernelIdeal.Fund.lean ====
/- Setting the protocol up: from the semaphores at zero and the protocol's fresh state, every device gets
   the shared records, its positions, the tokens of the raises it will make, and the credit for the
   raises it will wait for. -/
module

public import proofs.«01_k».proof.Proof.KernelIdeal.Whole
public import Idealize.ShloMosaic.Lib.Pipeline.BigSepL

@[expose] public section

noncomputable section

namespace Cert.KernelIdeal.Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The kernel's semaphores -/

/-- The kernel's own semaphores: all but the barrier, which is the runtime's. -/
abbrev osem : Fin 23 → SemLoc sig := fun k => csem k.succ

theorem ownSemFacts : Pipeline.OwnSemFacts cfg0.spec osem := by decide

abbrev own0 (c : Dev nD) : sProp 𝕄 := Pipeline.ownSems0 (Ix := Unit) (Name := ℕ) (U := UU) (Lvl := ℕ) (Val := Elt F) (τ := τ) osem c

/-- The barrier is the one semaphore outside every kernel. -/
theorem unscoped_eq (c : Dev nD) : (unscopedSems0 c : sProp 𝕄) = done (F := F) c 0 := by
  unfold unscopedSems0; rw [bigSep_eq_bigSepL_of_eq [csem 0] (by decide) (by decide)]; rfl

theorem own_eq_list (c : Dev nD) : own0 (F := F) c
    = iprop(done (F := F) c 1 ∗ done (F := F) c 2 ∗ done (F := F) c 3 ∗ done (F := F) c 4 ∗ done (F := F) c 5 ∗ done (F := F) c 6
      ∗ done (F := F) c 7 ∗ done (F := F) c 8 ∗ done (F := F) c 9 ∗ done (F := F) c 10 ∗ done (F := F) c 11 ∗ done (F := F) c 12
      ∗ done (F := F) c 13 ∗ done (F := F) c 14 ∗ done (F := F) c 15 ∗ done (F := F) c 16 ∗ done (F := F) c 17 ∗ done (F := F) c 18
      ∗ done (F := F) c 19 ∗ done (F := F) c 20 ∗ done (F := F) c 21 ∗ done (F := F) c 22 ∗ done (F := F) c 23) := by
  unfold own0
  rw [Pipeline.ownSems0_eq_of_list c osem [0, 1, 2, 3, 4, 5, 6, 7, 8, 9, 10, 11, 12, 13, 14, 15, 16, 17, 18, 19, 20, 21, 22] (by decide) (by decide)]
  rfl

/-- All 24 together. -/
theorem sems_eq (c : Dev nD) : closed (F := F) c = iprop(unscopedSems0 c ∗ own0 (F := F) c) := by
  rw [unscoped_eq, own_eq_list]; unfold closed; rw [bigSep_fin24]

/-! ## The fresh state -/

def ringCells : Finset (GSem nD τ sig) := Finset.univ.map ⟨kcell, kcell_injective⟩

/-- The tokens at a device's own semaphores: of the raises its partners make, and of its own transfers' ends. -/
def tokList : List (Fin 24 × Fin 4) :=
  raises.map (fun e => (e.1, e.2.2)) ++ ([1, 2, 3, 4, 5, 6, 7, 8, 9, 10, 11, 12] : List (Fin 24)).map fun k => (k, 0)

abbrev tokAt (j : Fin 27) : Fin 24 × Fin 4 := tokList.get (j.cast (by decide))
theorem tokAt_injective : Function.Injective tokAt := by decide +kernel

abbrev tokOf (x : Dev nD × Fin 27) : GSem nD τ sig × ℕ × Fin 4 := (kcell (x.1, (tokAt x.2).1), 0, (tokAt x.2).2)
theorem tokOf_injective : Function.Injective tokOf := by
  rintro ⟨c, j⟩ ⟨c', j'⟩ h
  have h1 := kcell_injective (congrArg Prod.fst h)
  have h2 : (tokAt j).2 = (tokAt j').2 := congrArg (fun x : GSem nD τ sig × ℕ × Fin 4 => x.2.2) h
  have h3 : j = j' := tokAt_injective (Prod.ext (congrArg Prod.snd h1) h2)
  rw [h3, show c = c' from congrArg Prod.fst h1]
def ringToks : Finset (GSem nD τ sig × ℕ × Fin 4) := Finset.univ.map ⟨tokOf, tokOf_injective⟩

def u₀ : UU :=
  (initOf (Pipeline.cells cfgs cellOf_inj) (Pipeline.launchToks cfgs cellOf_inj), initOf ringCells ringToks)

/-- The tokens at the semaphores of device `c`, those its partners will use first. -/
def toks (c : Dev nD) : sProp 𝕄 := iprop((bigSepL raises fun e => tok (F := F) c e.1 e.2.2) ∗ ownToks (F := F) c)

theorem toks_eq (c : Dev nD) : bigSep Finset.univ (fun j : Fin 27 => tok (F := F) c (tokAt j).1 (tokAt j).2) = toks c := by
  rw [bigSep_univ_eq_bigSepL ([0, 1, 2, 3, 4, 5, 6, 7, 8, 9, 10, 11, 12, 13, 14] ++ [15, 16, 17, 18, 19, 20, 21, 22, 23, 24, 25, 26]) (by decide) (by decide),
    bigSepL_append]
  rfl

/-- What the fresh state deals device `c`. -/
def G (c : Dev nD) : sProp 𝕄 :=
  iprop((bigSep Finset.univ fun k : Fin 24 => roundState ER (rd m) (kcell (c, k)) 0)
    ∗ posts (F := F) c ∗ (bigSep Finset.univ fun k : Fin 24 => reached ER (kcell (c, k)) 0) ∗ toks (F := F) c)

/-- What the device starts from, once the protocol is in force everywhere. -/
def G' (c : Dev nD) : sProp 𝕄 :=
  iprop(∃ K, records m K ∗ posts (F := F) c ∗ peerToks (F := F) c ∗ ownToks (F := F) c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 24 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund ER (rd m) ringCells ringToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G posts; rw [bigSep_sep', bigSep_sep', bigSep_sep']
  isplitl [Hst']; · iexact Hst'
  isplitl [Hat']; · iexact Hat'
  isplitl [Hr']; · iexact Hr'
  iexact Htok'

/-! ## Putting the protocol in force -/

theorem core_alloc (c : Dev nD) :
    iprop(own0 (F := F) c ∗ unscopedSems0 c ∗ G m c)
      ⊢ |={Set.univ}=> iprop((bigSep Finset.univ fun k => iprop(∃ κ : ℕ, cellInv ER (rd m) κ (kcell (c, k))))
          ∗ posts (F := F) c ∗ (bigSep Finset.univ fun k : Fin 24 => reached ER (kcell (c, k)) 0) ∗ toks (F := F) c) := by
  unfold G
  iintro ⟨Hos, Hus, Hst, Hat, Hr, Htok⟩
  ihave Hv := (Entails.of_eq (sems_eq (F := F) c).symm) $$ [Hos Hus]
  · isplitl [Hus] <;> iassumption
  imod (show iprop(closed (F := F) c ∗ bigSep Finset.univ fun k : Fin 24 => roundState ER (rd m) (kcell (c, k)) 0)
      ⊢ (|={Set.univ}=> bigSep Finset.univ fun k => iprop(∃ κ : ℕ, cellInv ER (rd m) κ (kcell (c, k))) : sProp 𝕄) from by
        unfold closed
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Hr] <;> iassumption

/-- The partner map `p` as a permutation of the devices. -/
def peerEquiv (p : Fin 4) : Dev nD ≃ Dev nD := ⟨peer p, peerInv p, inv_peer p, peer_inv p⟩

/-- Each token goes to the device whose raise it stands for. -/
theorem deal (l : List (Fin 24 × Fin 4 × Fin 4)) :
    (bigSep Finset.univ fun c : Dev nD => bigSepL l fun e => tok (F := F) c e.1 e.2.2)
      = bigSep Finset.univ fun c : Dev nD => bigSepL l fun e => tok (F := F) (peer e.2.1 c) e.1 e.2.2 := by
  induction l with
  | nil => rfl
  | cons x l ih =>
    simp only [bigSepL_cons']
    rw [bigSep_sep', bigSep_sep', ih, bigSep_univ_equiv (peerEquiv x.2.1) (fun c : Dev nD => tok (F := F) c x.1 x.2.2)]
    rfl

theorem with_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rd m) κ (kcell (c, k))))
          ∗ posts (F := F) c ∗ (bigSep Finset.univ fun k : Fin 24 => reached ER (kcell (c, k)) 0) ∗ toks (F := F) c) : sProp 𝕄)
      ⊢ bigSep Finset.univ (G' m) := by
  unfold toks
  rw [bigSep_sep', bigSep_sep', bigSep_sep', bigSep_sep', deal, ← bigSep_univ_prod (fun x : Dev nD × Fin 24 => iprop(∃ κ : ℕ, cellInv ER (rd m) κ (kcell x))),
    ← bigSep_univ_prod (fun x : Dev nD × Fin 24 => (reached ER (kcell x) 0 : sProp 𝕄))]
  iintro ⟨HI, Hat, HR, Hp, Ho⟩
  ihave HK := (BI.bigSep_exists_pi Finset.univ (fun (x : Dev nD × Fin 24) (κ : ℕ) => (cellInv ER (rd m) κ (kcell x) : sProp 𝕄))) $$ HI
  icases HK with ⟨%K, HI⟩
  iapply (with_records (R := records m K) (Φ := fun c => iprop(posts (F := F) c ∗ peerToks (F := F) c ∗ ownToks (F := F) c)) fun c _ => by unfold G'; exact exists_intro (Φ := fun K => iprop(records m K ∗ posts (F := F) c ∗ peerToks (F := F) c ∗ ownToks (F := F) c)) K)
  unfold records peerToks
  rw [bigSep_sep', bigSep_sep', bigSep_sep']
  isplitl [HI HR]
  · isplitl [HI] <;> iassumption
  isplitl [Hat]; · iexact Hat
  isplitl [Hp] <;> iassumption

/-- The protocol of every semaphore of every device, put in force at once. -/
theorem glob : (bigSep Finset.univ fun c => iprop(own0 (F := F) c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit -/

/-- What all devices owe device `c` is the credit it gets. -/
theorem credit (l : List (Fin 24 × Fin 4 × Fin 4)) (c : Dev nD) :
    (Pipeline.launchCred (fun d => owed d l) c : sProp 𝕄) ⊢ bigSepL l fun e => crd (F := F) c e.1 (amt e.1) := by
  induction l with
  | nil => exact Entails.of_eq (Pipeline.launchCred_zero c)
  | cons x l ih =>
    rw [bigSepL_cons', show (fun d => owed d (x :: l)) = fun d => owed d l + tallyAt (kcell (peer x.2.1 d, x.1)) () (amt x.1) from rfl, Pipeline.launchCred_add]
    refine (BI.sep_mono ih (Pipeline.launchCred_tallyAt (csem x.1) (peer x.2.1) (peerInv x.2.1) (peer_inv x.2.1) (inv_peer x.2.1) () (amt x.1) c)).trans ?_
    have swap (P R : sProp 𝕄) : iprop(P ∗ R) ⊢ iprop(R ∗ P) := by
      iintro ⟨Hl, Hx⟩
      isplitl [Hx] <;> iassumption
    exact swap _ _

end Cert.KernelIdeal.Cube
-- ==== Proof.KernelIdeal.Run.lean ====
/- The run of the whole program: every device ends with the result computed, its arguments as they were,
   and every semaphore at zero. -/
module

public import proofs.«01_k».proof.Proof.KernelIdeal.Fund
public import proofs.«01_k».proof.Proof.Gen.KernelIdeal.Points
public import Idealize.ShloMosaic.Lib.Pipeline.Quiescent

@[expose] public section

noncomputable section

namespace Cert.KernelIdeal.Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

/-- The residual argument, which stays where it is. -/
def resAt (c : Dev nD) : sProp 𝕄 := ((c : Thread nD τ).loc main_arg1) ↦{fullShare} m ((c : Thread nD τ).loc main_arg1)

/-- What the body starts from, beside its windows. -/
def start (c : Dev nD) : sProp 𝕄 := iprop(G' m c ∗ levAts L lv ∗ credits (F := F) c ∗ resAt m c)

def Φ₀ (c : Dev nD) : sProp 𝕄 := iprop(start m c ∗ scratch (F := F) c)
def Φ₁ (c : Dev nD) : sProp 𝕄 := iprop(closed (F := F) c ∗ scratch (F := F) c ∗ resAt m c)

/-- What the kernel's one grid point does: the arguments' blocks in, the result's block out. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m c
    | ⟨1, _⟩ => gs m c
    | ⟨2, _⟩ => outG m c
  Φ t := match t with
    | ⟨0, _⟩ => Φ₀ m c
    | ⟨_ + 1, _⟩ => Φ₁ m c
  q _ := fullShare
  owed t := match t with
    | ⟨0, _⟩ => owed c raises
    | ⟨_ + 1, _⟩ => 0

/-! ## The body -/

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A whole buffer, as the launch and as the body hold it. -/
theorem vpts_whole (c : Dev nD) (b : Ref sig .tc) (q : PosShare TreeShare) (f : b.ty.Contents (Elt F)) :
    (vpts c (Memref.whole b) q f : sProp 𝕄) = (((c : Thread nD τ).loc b) ↦{q} f) := by
  show ((c : Thread nD τ).loc b ↦[(View.whole b).set]{q} f : sProp 𝕄) = _
  rw [View.set_whole]

theorem vany_whole (c : Dev nD) (b : Ref sig .tc) :
    vany (F := F) c (Memref.whole b) = iprop(∃ f : Buf (Elt F) ((c : Thread nD τ).loc b), ((c : Thread nD τ).loc b) ↦{fullShare} f) := by
  show iprop(∃ f : Buf (Elt F) ((c : Thread nD τ).loc b), ((c : Thread nD τ).loc b ↦[(View.whole b).set]{fullShare} f)) = _
  rw [View.set_whole]

theorem scratch_eq (c : Dev nD) : scratch (F := F) c ⊣⊢ Pipeline.scopedRest cfg0.spec c := by
  rw [scopedRest0_eq]
  unfold scratch
  simp only [vany_whole]
  constructor
  · iintro ⟨H0, H1, H2, H3, H4, H5, H6, H7⟩
    isplitl [H0]; · iexact H0
    isplitl [H1]; · iexact H1
    isplitl [H2]; · iexact H2
    isplitl [H3]; · iexact H3
    isplitl [H4]; · iexact H4
    isplitl [H5]; · iexact H5
    isplitl [H6] <;> iassumption
  · iintro ⟨H0, H1, H2, H3, H4, H5, H6, H7⟩
    isplitl [H0]; · iexact H0
    isplitl [H1]; · iexact H1
    isplitl [H2]; · iexact H2
    isplitl [H3]; · iexact H3
    isplitl [H4]; · iexact H4
    isplitl [H5]; · iexact H5
    isplitl [H6] <;> iassumption

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ m c ∗ (dats m ρ 0 c).owesAt () t0_0.succ
    ∗ stg c cc0_stg0_0 (xs m c) ∗ stg c cc0_stg1_0 (gs m c) ∗ stg c cc0_stg2_0 (outG m c))

theorem body_sound (c : Dev nD) : bodyPre m ρ c ⊢ run c (onBufs (cc0_body (F := F))) (fun _ => bodyPost m ρ c) := by
  unfold bodyPre Φ₀ start G' resAt Dat.owesAt Pipeline.owesWithin
  rw [show (dats m ρ 0 c).owed t0_0.castSucc = owed c raises from rfl]
  iintro ⟨⟨⟨⟨%K, #HR, Hat, Hp, Ho⟩, #Hlev, Hcr, Hres⟩, Hscr⟩, ⟨%W, %hW, HO⟩, ⟨%d0, %g0, %hg0, Hx⟩, ⟨%d1, %g1, %hg1, Hg⟩, ⟨%d2, %g2, %hg2, Hout⟩⟩
  have hx : g0 = xs m c := by rw [hg0]; unfold Dat.before; rw [if_pos (fetch0_0 t0_0)]; rfl
  have hg : g1 = gs m c := by rw [hg1]; unfold Dat.before; rw [if_pos (fetch0_1 t0_0)]; rfl
  subst hx; subst hg
  iapply (body_run m K c fun _ => bodyPost m ρ c) $$ [HO Hat Hp Ho Hcr Hres Hscr Hx Hg Hout]
  · isplitr
    · isplitr; · iexact HR
      iexact Hlev
    isplitl [HO]; · unfold ow; iexists W; iexact HO
    isplitl [Hat]; · iexact Hat
    isplitl [Hp]; · iexact Hp
    isplitl [Ho]; · iexact Ho
    isplitl [Hcr]; · iexact Hcr
    isplitl [Hscr]; · iexact Hscr
    rw [vpts_whole, vpts_whole, vpts_whole]
    isplitl [Hres]; · iexact Hres
    isplitl [Hx]; · iexact Hx
    isplitl [Hg]; · iexact Hg
    unfold outAt
    iexists g2
    isplitr; · (ipureintro; exact fun p hp => absurd hp List.not_mem_nil)
    rw [vpts_whole]; iexact Hout
  rw [vpts_whole, vpts_whole, vpts_whole, vpts_whole]
  unfold bodyPost Φ₁ resAt Dat.owesAt Pipeline.owesWithin ow
  rw [show (dats m ρ 0 c).owed t0_0.succ = owed c (raises.drop 15) from rfl]
  iintro ⟨⟨%W', HO⟩, Hcl, Hscr, Hres, Hx, Hg, Hout⟩
  isplitl [Hcl Hscr Hres]
  · isplitl [Hcl]; · iexact Hcl
    isplitl [Hscr] <;> iassumption
  isplitl [HO]
  · iexists W'
    isplitr; · (ipureintro; exact fun _ _ => Or.inl trivial)
    iexact HO
  isplitl [Hx]
  · iexists _; isplitr; · (ipureintro; rfl)
    iexact Hx
  isplitl [Hg]
  · iexists _; isplitr; · (ipureintro; rfl)
    iexact Hg
  iexists _; isplitr; · (ipureintro; rfl)
  iexact Hout

theorem body_obligation (c : Dev nD) : BodyObligation (dats (F := F) m ρ 0 c) (defs₀ (F := F)) 𝒱₀ () Set.univ := fun t => by
  rw [show t = t0_0 from fin_N0 t]
  rw [bigSep_W0, bigSep_W0]
  simp only [owns_whole_eq]
  exact body_sound m ρ c

/-! ## The sides of the launch -/

theorem win_share (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => owed d raises) c ∗ prngReg c (ρ c) ∗ G' m c)
      ⊢ |={Set.univ}=> iprop(start m c ∗ emp) := by
  rw [Pipeline.unscopedRestP_none, unscopedRest0_eq]
  iintro ⟨Hres, Hlev, Hcr, -, HG⟩
  ihave Hc := (credit (F := F) raises c) $$ Hcr
  imodintro
  unfold start resAt credits
  isplitl
  · isplitl [HG]; · iexact HG
    isplitl [Hlev]; · iexact Hlev
    isplitl [Hc]; · iexact Hc
    iexact Hres
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iapply (scratch_eq c).2; iexact Hr

theorem phi1_exit (c : Dev nD) :
    (dats m ρ 0 c).Φ (Fin.last cfg0.N) ⊢ iprop((unscopedSems0 c ∗ resAt m c) ∗ Pipeline.ownSems0 osem c ∗ Pipeline.scopedRest cfg0.spec c) := by
  rw [show (dats m ρ 0 c).Φ (Fin.last cfg0.N) = Φ₁ m c from rfl]
  unfold Φ₁
  rw [sems_eq]
  iintro ⟨⟨Hu, Ho⟩, Hscr, Hres⟩
  isplitl [Hu Hres]; · isplitl [Hu] <;> iassumption
  isplitl [Ho]; · iexact Ho
  iapply (scratch_eq c).1; iexact Hscr

theorem place_pos : ∀ x ∈ raises, 0 < place x.1 := by decide

theorem waits (c : Dev nD) : (levAts L lv : sProp 𝕄) ⊢ Pipeline.cellsWaits cfgs (dats m ρ) () 0 c :=
  Pipeline.cellsWaits_intro cfgs (dats m ρ) () 0 c fun w s t => by
    have hsm : lv ((c : Thread nD τ), .dma ((cfg0.win w).sem s)) () ≤ 0 :=
      le_of_eq (lv_other c _ (by fin_cases w <;> fin_cases s <;> decide))
    rcases t with ⟨_ | _, ht⟩
    · exact mayWait_of c _ raises 0 hsm place_pos
    · exact mayWait_of c _ [] 0 hsm (fun x hx => absurd hx List.not_mem_nil)

/-! ## The final arrays -/

/-- The result's window is the whole array, -/
theorem read_out (c : Dev nD) (f : Buf (Elt F) ((c : Thread nD τ).loc main_v1)) : (win0_2.blk t0_0).view.read (Elt F) f = f :=
  Memref.read_access_unit_zero (Elt F) main_v1
    (show (fun a => (win0_2.index t0_0) a * main_v1.ty.shape.size a) = fun _ => 0 from funext fun a => by fin_cases a <;> decide)
    (fun a => by fin_cases a <;> decide) f

/-- so the array ends at what the body leaves. -/
theorem final_out (c : Dev nD) : (dats m ρ 0 c).arrAt 2 cfg0.N = outG m c := by
  have hw : ((cfg0.win 2).blk t0_0).view.read (Elt F) ((dats m ρ 0 c).arrAt 2 cfg0.N) = (dats m ρ 0 c).flushed 2 t0_0 := by
    rw [show cfg0.N = t0_0.val + 1 from rfl, (dats m ρ 0 c).arrAt_succ (2 : Fin 3) t0_0, flush0_2, if_pos rfl]
    exact View.read_write_univ _ _
  have hf : (dats m ρ 0 c).flushed 2 t0_0 = outG m c := funext fun _ => rfl
  rw [hf] at hw
  exact (read_out c _).symm.trans hw

/-- What the run leaves. -/
def Post (r : PUnit × MemSt nD τ sig (Elt F)) : Prop :=
  (∀ c : Dev nD, r.2.mem ((c : Thread nD τ).loc main_v1) = outG m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
    ∧ r.2.sem = fun _ => 0

/-- From any memory and with every semaphore at zero, every fair run of the program ends, with the result of
    every device computed, the arguments unchanged and every semaphore back at zero. -/
theorem run_main : θ_run defs (onTc (τ := τ) (main (F := F))) (s₀ m ρ) (Post m) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := win_share m ρ)
    (hdistinct := winFacts0.arr_inj)
    (O₀ := fun d => owed d raises) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => iprop(unscopedSems0 c ∗ resAt m c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      unfold resAt
      iintro ⟨⟨Hu, Hres⟩, -, HSI⟩
      ihave H := (pointsTo_read_all ({()} : Finset Unit) (fun _ => (c : Thread nD τ).loc main_arg1) (fun _ => m ((c : Thread nD τ).loc main_arg1)) s' fullShare) $$ [Hres HSI]
      · rw [bigSep_singleton]; isplitl [Hres] <;> iassumption
      icases H with ⟨%h1, HSI⟩
      ihave %h2 := (tcUnscoped_read c s') $$ [Hu HSI]
      · isplitl [Hu] <;> iassumption
      imodintro
      isplitr; · (ipureintro; exact ⟨h2, h1 () (Finset.mem_singleton_self _)⟩)
      iexact HSI)
    (hQ := fun _ h hs => ⟨fun c => ⟨((h c).1 2).trans (final_out m ρ c), ((h c).1 0).trans ((dats m ρ 0 c).arrAt_in 0 rfl _),
      (h c).2.2.2, ((h c).1 1).trans ((dats m ρ 0 c).arrAt_in 1 rfl _)⟩, sem_eq_zero hs fun c => (h c).2.2.1⟩)

end Cert.KernelIdeal.Cube
-- ==== Proof.Value.Row.lean ====
/- One row of the normalisation, over the extended reals: a row divided by the square root of its mean
   square plus a small constant, times the scale. And that this is what the kernel computes of each of
   its rows, once the two parts of the sum and the residual are added. -/
module

public import proofs.«01_k».proof.Proof.Gen.KernelIdeal.Skeleton
public import Idealize.ShloMosaic.Lib.Pointwise.Tactic
public import Idealize.ShloMosaic.Lib.Pointwise.Reduce
public import Idealize.ShloMosaic.Lib.Pointwise.Reshape

@[expose] public section

noncomputable section

namespace Cert.Value

open Idealize.ShloMosaic

/-- What a row's elements are divided by: the square root of the mean square plus the small constant. The
    two constants are the programs' own words for the row's length and for the small constant. -/
def rowScale (y : Fin 2048 → EReal) : EReal :=
  Ideal.sqrt (Ideal.div (∑ k, y k * y k) (Ideal.ofBits .f32 0x45000000#32) + Ideal.ofBits .f32 0x358637BD#32)

/-- An element of the normalised row. -/
def rowNorm (y g : Fin 2048 → EReal) (j : Fin 2048) : EReal := Ideal.div (y j) (rowScale y) * g j

open Cert.KernelIdeal Cert.KernelIdeal.Gen in
/-- A row of the kernel's quarter. -/
theorem quarter_row (p a : FVec Ideal S64x2048 .bf16) (r : FVec Ideal S64x2048 .f32) (g : FVec Ideal S2048 .f32)
    (i : Fin 64) (j : Fin 2048) :
    k0_pay4 (F := Ideal) p a r g (ix2 i j)
      = rowNorm (fun k => (p (ix2 i k) + a (ix2 i k)) + r (ix2 i k)) (fun k => g (ix1 k)) j := by
  unfold k0_pay4 rowNorm rowScale
  pointwise [Ideal.reduceAdd_def]

end Cert.Value

end
-- ==== Proof.Value.Reference.lean ====
/- What the reference computes: the sum of the four partial arrays plus the residual, normalised row by
   row. -/
module

public import proofs.«01_k».proof.Proof.Gen.ReferenceIdeal.Run
public import proofs.«01_k».proof.Proof.Value.Row

@[expose] public section

noncomputable section

namespace Cert.Value

open Idealize.ShloMosaic Idealize.ShloMosaic.TcCoe Idealize.SL.Sem
open Cert.ReferenceIdeal Cert.ReferenceIdeal.Gen

/-- Row `r` of the sum of the partial arrays `X` and the residual `R`. -/
def sumRow (X : FVec Ideal S4x2048x2048 .f32) (R : FVec Ideal S2048x2048 .f32) (r k : Fin 2048) : EReal :=
  (∑ z : Fin 4, X (ix3 z r k)) + R (ix2 r k)

/-- The result as a function of the whole arguments. -/
def whole (X : FVec Ideal S4x2048x2048 .f32) (R : FVec Ideal S2048x2048 .f32) (G : FVec Ideal S2048 .f32) : FVec Ideal S2048x2048 .f32 :=
  fun i => rowNorm (sumRow X R (i 0 : Fin 2048)) (fun k => G (ix1 k)) (i 1 : Fin 2048)

/-- The sum plus the residual, at an element. -/
theorem reference_sum (X : FVec Ideal S4x2048x2048 .f32) (R : FVec Ideal S2048x2048 .f32) (r k : Fin 2048) :
    addf (Host.reduceAdd X (constant S_ .f32 0x00000000#32) reducesTo_S4x2048x2048_S2048x2048_d0 h_S_) R (ix2 r k) = sumRow X R r k := by
  unfold sumRow
  pointwise [Ideal.hostReduceAdd_def]

/-- The normalisation of an array, as the reference writes it. -/
theorem reference_norm (Y : FVec Ideal S2048x2048 .f32) (G : FVec Ideal S2048 .f32) (r j : Fin 2048) :
    mulf (Host.divf Y (broadcastInDim S2048x2048 ![0, 1] bcast_S2048x1_S2048x2048_0_1 (Host.sqrt (addf (Host.divf (broadcastInDim S2048x1 ![0] bcast_S2048_S2048x1_0
        (Host.reduceAdd (mulf Y Y) (constant S_ .f32 0x00000000#32) reducesTo_S2048x2048_S2048_d1 h_S_)) (broadcastInDim S2048x1 ![] bcast_S_S2048x1 (constant S_ .f32 0x45000000#32)))
        (broadcastInDim S2048x1 ![] bcast_S_S2048x1 (constant S_ .f32 0x358637BD#32))))))
      (broadcastInDim S2048x2048 ![0, 1] bcast_S1x2048_S2048x2048_0_1 (broadcastInDim S1x2048 ![1] bcast_S2048_S1x2048_1 G)) (ix2 r j)
      = rowNorm (fun k => Y (ix2 r k)) (fun k => G (ix1 k)) j := by
  unfold rowNorm rowScale
  pointwise [Ideal.hostReduceAdd_def]

/-- The reference ends with its result at `whole` of its arguments, and the arguments unchanged. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14)
          = whole (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run _ _ _).mono (fun r h c => ⟨(h c).1.trans ?_, (h c).2⟩) (Cert.ReferenceIdeal.Value.run (F := Ideal) m ρ)
  funext i
  refine (congrArg _ (ix2_eta (n0 := 2048) (n1 := 2048) i).symm).trans ((reference_norm _ _ (i 0 : Fin 2048) (i 1 : Fin 2048)).trans ?_)
  exact congrArg (fun y => rowNorm y _ _) (funext fun k => reference_sum _ _ _ k)

end Cert.Value

end
-- ==== Proof.Value.Sum.lean ====
/- What the kernel's buffers hold, element by element, in terms of the whole arguments: the four devices
   that differ only in the mesh's last coordinate each hold one of the four partial arrays, the first
   exchange adds two of them, the second the other two. -/
module

public import proofs.«01_k».proof.Proof.KernelIdeal.Content
public import proofs.«01_k».proof.Proof.Value.Reference
public import Idealize.ShloMosaic.Lib.Pointwise.IndexBridge

@[expose] public section

noncomputable section

namespace Cert.Value

open Idealize.ShloMosaic Idealize.ShloMosaic.TcCoe
open Cert.KernelIdeal Cert.KernelIdeal.Gen Cert.KernelIdeal.Cube

variable (m : (ℓ : Loc nD τ sig) → Buf (Elt Ideal) ℓ)
  (X : FVec Ideal Cert.ReferenceIdeal.S4x2048x2048 .f32) (R : FVec Ideal S2048x2048 .f32) (G : FVec Ideal S2048 .f32)

/-- The devices' arguments are their parts of the whole arrays. -/
def Parts : Prop := ∀ c : Dev nD,
  m ((c.tc : Thread nD τ).loc main_arg0) = Layout.blockN ⟨3, ![1, 2048, 2048]⟩ ⟨3, ![4, 2048, 2048]⟩ (Layout.meshBlock [2, 4, 4] ![[2], [], []] c) X
    ∧ m ((c.tc : Thread nD τ).loc main_arg1) = R ∧ m ((c.tc : Thread nD τ).loc main_arg2) = G

/-- The device's coordinate on the mesh's last axis. -/
def zc (c : Dev nD) : Fin 4 := ⟨c.val % 4, Nat.mod_lt _ (by decide)⟩

variable {m X R G}

theorem mesh_coord : ∀ c : Dev nD, Layout.meshLin [2, 4, 4] c.val [2] = c.val % 4 := by decide +kernel

/-- A window that is the whole array reads the array. -/
theorem xs_eq (c : Dev nD) : xs m c = m ((c.tc : Thread nD τ).loc main_arg0) :=
  Memref.read_access_unit_zero (Elt Ideal) main_arg0
    (show (fun a => (win0_0.index (0 : Fin 1)) a * main_arg0.ty.shape.size a) = fun _ => 0 from funext fun a => by fin_cases a <;> decide)
    (fun a => by fin_cases a <;> decide) _

theorem gs_eq (c : Dev nD) : gs m c = m ((c.tc : Thread nD τ).loc main_arg2) :=
  Memref.read_access_unit_zero (Elt Ideal) main_arg2
    (show (fun a => (win0_1.index (0 : Fin 1)) a * main_arg2.ty.shape.size a) = fun _ => 0 from funext fun a => by fin_cases a <;> decide)
    (fun a => by fin_cases a <;> decide) _

/-- The staged block is the partial array of the device's last coordinate. -/
theorem xs_at (h : Parts m X R G) (c : Dev nD) (u : Fin 1) (r k : Fin 2048) : xs m c (ix3 u r k) = X (ix3 (zc c) r k) := by
  rw [xs_eq, (h c).1, Layout.blockN_apply]
  refine congrArg X (funext fun a => Fin.ext ?_)
  have hu : u.val = 0 := by omega
  rw [Layout.TilesN.idx_val]
  match a with
  | ⟨0, _⟩ =>
    show Layout.meshLin [2, 4, 4] c.val [2] * 1 + u.val = c.val % 4
    rw [mesh_coord, hu]; omega
  | ⟨1, _⟩ => show 0 * 2048 + r.val = r.val; omega
  | ⟨2, _⟩ => show 0 * 2048 + k.val = k.val; omega

/-! ## The first exchange -/

/-- Rows `o` onwards of the staged block, read at an element. -/
theorem rows_at (h : Parts m X R G) (c : Dev nD) {o : ℕ} {off : Fin 3 → ℕ} (ho : off = ![0, o, 0])
    (inb : ∀ a, off a + S1x128x2048.size a ≤ S1x2048x2048.size a) (i : Fin 128) (k : Fin 2048) (hb : o + i.val < 2048) :
    xM.view.readAt (Elt Ideal) (Rect.unit (s := S1x2048x2048) off S1x128x2048.size inb).toLoadRect (xs m c) (ix3 0 i k)
      = X (ix3 (zc c) ⟨o + i.val, hb⟩ k) := by
  subst ho
  refine Eq.trans (congrArg (xs m c) (funext fun a => Fin.ext ?_)) (xs_at h c 0 ⟨o + i.val, hb⟩ k)
  match a with
  | ⟨0, _⟩ => rfl
  | ⟨1, _⟩ => show o + 1 * i.val = o + i.val; omega
  | ⟨2, _⟩ => show 0 + 1 * k.val = k.val; omega

/-- Row `i` of the half of its block a device keeps, among all rows. -/
def keep (c : Dev nD) (i : Fin 128) : Fin 2048 :=
  ⟨256 * blk c + 128 * hf c + i.val, by have := blk_lt c; have := hf_lt c; omega⟩

/-- What the partner sends: its own partial array at the rows the device keeps. -/
theorem sent_at (h : Parts m X R G) (c : Dev nD) (i : Fin 128) (k : Fin 2048) :
    a1s m (zA c) (ix2 i k) = X (ix3 (zc (zA c)) (keep c i) k) := by
  have ho : k0_off2 (zA c) = ![0, 256 * blk c + 128 * hf c, 0] := by rw [off2_eq, zA_zA, blk_zA]
  refine Eq.trans ?_ (rows_at h (zA c) ho (k0_off2_inb _) i k (keep c i).isLt)
  unfold a1s k0_pay2
  pointwise

/-- The accumulator: two partial arrays added. -/
theorem acc_at (h : Parts m X R G) (c : Dev nD) (i : Fin 128) (k : Fin 2048) :
    acc m c (ix2 i k) = X (ix3 (zc (zA c)) (keep c i) k) + X (ix3 (zc c) (keep c i) k) := by
  refine Eq.trans ?_ (congrArg₂ (· + ·) (sent_at h c i k) (rows_at h c (off3_eq c) (k0_off3_inb _) i k (keep c i).isLt))
  unfold acc k0_pay3
  pointwise

/-! ## The second exchange -/

/-- Row `i` of a device's quarter, among all rows. -/
def mine (c : Dev nD) (i : Fin 64) : Fin 2048 :=
  ⟨256 * blk c + own c + i.val, by have := blk_lt c; have := hf_lt c; have := qt_lt c; unfold own; omega⟩

/-- Rows `64 * q` onwards of an accumulator are the quarter's rows. -/
theorem quarter_at (f : Vec Ideal S128x2048 .bf16) {q : ℕ} {off : Fin 2 → ℕ} (ho : off = ![64 * q, 0]) (hq : q < 2)
    (inb : ∀ a, off a + S64x2048.size a ≤ S128x2048.size a) (i : Fin 64) (k : Fin 2048) :
    f ((Rect.unit (s := S128x2048) off S64x2048.size inb).idx (ix2 i k)) = f (ix2 ⟨64 * q + i.val, by omega⟩ k) := by
  refine congrArg f ((emb_unit2 ho inb (ix2 i k) (by show 64 * q + i.val < 128; omega)).trans ?_)
  exact (ix2_eq_valueIdx _ _).symm

theorem keep_own (c d : Dev nD) (hb : blk d = blk c) (hh : hf d = hf c) (i : Fin 64) (hi : 64 * qt c + i.val < 128) :
    keep d ⟨64 * qt c + i.val, hi⟩ = mine c i :=
  Fin.ext (by show 256 * blk d + 128 * hf d + (64 * qt c + i.val) = 256 * blk c + (128 * hf c + 64 * qt c) + i.val; rw [hb, hh]; omega)

/-- The part of the accumulator that stays, at an element. -/
theorem kept_at (h : Parts m X R G) (c : Dev nD) (i : Fin 64) (k : Fin 2048) :
    accIn m c (ix2 i k) = X (ix3 (zc (zA c)) (mine c i) k) + X (ix3 (zc c) (mine c i) k) := by
  refine (quarter_at (acc m c) (off5_eq c) (qt_lt c) (k0_off5_inb c) i k).trans ((acc_at h c _ k).trans ?_)
  rw [keep_own c c rfl rfl]

/-- The part that arrives from the other device, at an element. -/
theorem arrived_at (h : Parts m X R G) (c : Dev nD) (i : Fin 64) (k : Fin 2048) :
    a2r m c (ix2 i k) = X (ix3 (zc (zA (zB c))) (mine c i) k) + X (ix3 (zc (zB c)) (mine c i) k) := by
  have ho : k0_off4 (zB c) = ![64 * qt c, 0] := by rw [off4_eq, zB_zB]
  refine (quarter_at (acc m (zB c)) ho (qt_lt c) (k0_off4_inb _) i k).trans ((acc_at h _ _ k).trans ?_)
  rw [keep_own c (zB c) (blk_zB c) (hf_zB c)]

/-- The residual's rows, at an element. -/
theorem residual_at (h : Parts m X R G) (c : Dev nD) (i : Fin 64) (k : Fin 2048) : rc m c (ix2 i k) = R (ix2 (mine c i) k) := by
  show m ((c.tc : Thread nD τ).loc main_arg1) ((Rect.unit (s := S2048x2048) (k0_off1 c) S64x2048.size (k0_off1_inb c)).idx (ix2 i k)) = _
  rw [(h c).2.1]
  refine congrArg R ((emb_unit2 (off1_eq c) _ (ix2 i k) (mine c i).isLt).trans ?_)
  exact (ix2_eq_valueIdx _ _).symm

/-! ## All four -/

/-- The partners in the two exchanges, as last coordinates. -/
theorem partners : ∀ c : Dev nD,
    (zc c = 0 ∧ zc (zA c) = 1 ∧ zc (zB c) = 2 ∧ zc (zA (zB c)) = 3) ∨ (zc c = 1 ∧ zc (zA c) = 0 ∧ zc (zB c) = 3 ∧ zc (zA (zB c)) = 2)
      ∨ (zc c = 2 ∧ zc (zA c) = 3 ∧ zc (zB c) = 0 ∧ zc (zA (zB c)) = 1) ∨ (zc c = 3 ∧ zc (zA c) = 2 ∧ zc (zB c) = 1 ∧ zc (zA (zB c)) = 0) := by
  decide +kernel

/-- The device, its two partners and its partner's partner hold the four partial arrays. -/
theorem all_four (f : Fin 4 → EReal) (c : Dev nD) :
    (f (zc (zA (zB c))) + f (zc (zB c))) + (f (zc (zA c)) + f (zc c)) = ∑ z : Fin 4, f z := by
  rw [Fin.sum_univ_four]
  rcases partners c with ⟨h0, h1, h2, h3⟩ | ⟨h0, h1, h2, h3⟩ | ⟨h0, h1, h2, h3⟩ | ⟨h0, h1, h2, h3⟩ <;> rw [h0, h1, h2, h3] <;> ac_rfl

/-- The row a device normalises is the row of the sum of all four partial arrays and the residual. -/
theorem row_at (h : Parts m X R G) (c : Dev nD) (i : Fin 64) (k : Fin 2048) :
    (a2r m c (ix2 i k) + accIn m c (ix2 i k)) + rc m c (ix2 i k) = sumRow X R (mine c i) k := by
  show ((a2r m c (ix2 i k) : EReal) + accIn m c (ix2 i k)) + rc m c (ix2 i k) = _
  rw [arrived_at h, kept_at h, residual_at h]
  exact congrArg (· + _) (all_four (fun z => X (ix3 z (mine c i) k)) c)

/-- A device's quarter, normalised, is the quarter's rows of the whole result. -/
theorem nrm_at (h : Parts m X R G) (c : Dev nD) (i : Fin 64) (j : Fin 2048) : nrm m c (ix2 i j) = whole X R G (ix2 (mine c i) j) := by
  refine (quarter_row _ _ _ _ i j).trans ?_
  rw [gs_eq, (h c).2.2]
  exact congrArg (fun y => rowNorm y _ j) (funext fun k => row_at h c i k)

end Cert.Value

end
-- ==== Proof.Value.Result.lean ====
/- The equation: every device's result is the reference's. A row of the result is a row of some device's
   quarter, and changing the format back and forth changes nothing over the extended reals. -/
module

public import proofs.«01_k».proof.Proof.Value.Sum

@[expose] public section

noncomputable section

namespace Cert.Value

open Idealize.ShloMosaic Idealize.ShloMosaic.TcCoe
open Cert.KernelIdeal Cert.KernelIdeal.Gen Cert.KernelIdeal.Cube

variable {m : (ℓ : Loc nD τ sig) → Buf (Elt Ideal) ℓ}
  {X : FVec Ideal Cert.ReferenceIdeal.S4x2048x2048 .f32} {R : FVec Ideal S2048x2048 .f32} {G : FVec Ideal S2048 .f32}

/-- The narrow copy of a quarter holds the same values. -/
theorem nrb_at (c : Dev nD) (i : Fin 64) (j : Fin 2048) : nrb m c (ix2 i j) = nrm m c (ix2 i j) := by
  unfold nrb nrm k0_pay5
  pointwise

/-- The rows of the device that computes quarter `q` of block `b`. -/
theorem maker_rows : ∀ b < 8, ∀ q < 4, 256 * blk (maker b q) + own (maker b q) = 256 * b + 64 * q := by decide +kernel

theorem mine_eq (c : Dev nD) (r : Fin 2048) (h : 256 * blk c + own c = 64 * (r.val / 64)) :
    mine c ⟨r.val % 64, Nat.mod_lt _ (by decide)⟩ = r :=
  Fin.ext (by show 256 * blk c + own c + r.val % 64 = r.val; omega)

/-- A finished block, at an element. -/
theorem block_at (h : Parts m X R G) (r j : Fin 2048) :
    nbx m (r.val / 256) (ix2 ⟨r.val % 256, Nat.mod_lt _ (by decide)⟩ j) = whole X R G (ix2 r j) := by
  have hr := r.isLt
  have hm := maker_rows (r.val / 256) (by omega) (r.val % 256 / 64) (by omega)
  have hi : r.val % 256 % 64 = r.val % 64 := by omega
  have he := mine_eq (maker (r.val / 256) (r.val % 256 / 64)) r (by omega)
  show nrb m (maker (r.val / 256) (r.val % 256 / 64)) (ValueIdx.ix2 ⟨r.val % 256 % 64, _⟩ j) = _
  rw [← ix2_eq_valueIdx, nrb_at, nrm_at h]
  exact congrArg (fun a => whole X R G (ix2 a j)) ((congrArg (mine _) (Fin.ext hi)).trans he)

/-- A device's result, at an element. -/
theorem result_at (h : Parts m X R G) (c : Dev nD) (r j : Fin 2048) : outG m c (ix2 r j) = whole X R G (ix2 r j) := by
  show ite (r.val / 64 = 4 * blk c + (2 * hf c + qt c)) (nrm m c (ValueIdx.ix2 ⟨r.val % 64, _⟩ j)) (nbx m (r.val / 256) (ValueIdx.ix2 ⟨r.val % 256, _⟩ j)) = _
  rw [← ix2_eq_valueIdx, ← ix2_eq_valueIdx]
  by_cases ho : r.val / 64 = 4 * blk c + (2 * hf c + qt c)
  · rw [if_pos ho, nrm_at h, mine_eq c r (by rw [ho, own_eq]; omega)]
  · rw [if_neg ho]
    exact block_at h r j

/-- What every device's result holds in the end. -/
theorem result_eq (h : Parts m X R G) (c : Dev nD) : outG m c = whole X R G :=
  funext fun i => (congrArg _ (ix2_eta (n0 := 2048) (n1 := 2048) i).symm).trans
    ((result_at h c (i 0 : Fin 2048) (i 1 : Fin 2048)).trans (congrArg _ (ix2_eta (n0 := 2048) (n1 := 2048) i)))

end Cert.Value

end
-- ==== Proof.lean ====
/- The certificate: the frames of the three programs, the idealization's rewrites (none), and the value of
   the kernel, each from the modules that prove it. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Value.Result
public import Idealize.ShloMosaic.Adequacy
public import Idealize.ShloMosaic.Init

@[expose] public section

noncomputable section

namespace Cert.Proof

open Idealize.ShloMosaic Idealize.SL.Sem

theorem frame_kernel : Cert.quiescent_Kernel (hKernel := Cert.Kernel.Gen.facts) := fun m g _ =>
  (θ_run _ _ _).mono (fun _ h => ⟨fun c => (h.1 c).2, h.2⟩) (Cert.Kernel.Cube.run_main (F := Bits) m g)

theorem frame_kernelIdeal : Cert.quiescent_KernelIdeal (hKernelIdeal := Cert.KernelIdeal.Gen.facts) := fun m g _ =>
  (θ_run _ _ _).mono (fun _ h => ⟨fun c => (h.1 c).2, h.2⟩) (Cert.KernelIdeal.Cube.run_main (F := Ideal) m g)

/-- The reference has no semaphores. -/
theorem frame_reference : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run (F := Ideal) m g)

/-- From the parts of the whole arguments, every device's result is the reference's. -/
theorem algebraic : Cert.algebraic_KernelIdeal_ReferenceIdeal (hKernelIdeal := Cert.KernelIdeal.Gen.facts) (hReferenceIdeal := Cert.ReferenceIdeal.Gen.facts) :=
  fun m g m' g' _ hparts => ⟨_,
    (θ_run _ _ _).mono (fun _ h c => ⟨(h.1 c).1.trans (Cert.Value.result_eq hparts c), (h.1 c).2⟩)
      (Cert.KernelIdeal.Cube.run_main (F := Ideal) m g),
    (θ_run _ _ _).mono (fun _ h => h 0) (Cert.Value.reference_run m' g')⟩

theorem claim : Cert.Claim := ⟨Cert.Kernel.Gen.facts, Cert.KernelIdeal.Gen.facts, Cert.ReferenceIdeal.Gen.facts,
  frame_kernel, frame_kernelIdeal, frame_reference, trivial, algebraic⟩

end Cert.Proof

end
